-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lows_finite [hPre_lows_finite : Cert.Pre_lows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_lows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_lows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_lows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_lows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lows_finite [hPre_lows_finite : Cert.Pre_lows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_lows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_lows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_lows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_lows_finite [hKernelIdeal : Cert.KernelIdeal.Facts] [hPre_lows_finite : Cert.Pre_lows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lows_finite [hReferenceIdeal : Cert.ReferenceIdeal.Facts] [hPre_lows_finite : Cert.Pre_lows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_t" .f32 0x3A83126F#32 ((1 / 1000 : ℝ) : EReal)
  ∧ IdealRules.named_const.Statement Cert.KernelIdeal.κ "inv_s" .f32 0x3C23D70A#32 ((1 / 100 : ℝ) : EReal)

def algebraic_KernelIdeal_ReferenceIdeal_pre_lows_finite [hKernelIdeal : Cert.KernelIdeal.Facts] [hReferenceIdeal : Cert.ReferenceIdeal.Facts] [hPre_lows_finite : Cert.Pre_lows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lows_finite : Cert.Pre_lows_finite.Facts),
    quiescent_Kernel (hKernel := hKernel)
    ∧ quiescent_KernelIdeal (hKernelIdeal := hKernelIdeal)
    ∧ quiescent_KernelIdeal_pre_lows_finite (hKernelIdeal := hKernelIdeal) (hPre_lows_finite := hPre_lows_finite)
    ∧ quiescent_ReferenceIdeal (hReferenceIdeal := hReferenceIdeal)
    ∧ quiescent_ReferenceIdeal_pre_lows_finite (hReferenceIdeal := hReferenceIdeal) (hPre_lows_finite := hPre_lows_finite)
    ∧ preserves_Kernel_KernelIdeal
    ∧ algebraic_KernelIdeal_ReferenceIdeal_pre_lows_finite (hKernelIdeal := hKernelIdeal) (hReferenceIdeal := hReferenceIdeal) (hPre_lows_finite := hPre_lows_finite)
-- ==== Pre_lows_finite.lean ====
abbrev S16x128 : Shape := ⟨2, ![16, 128]⟩
abbrev S16x128x512 : Shape := ⟨3, ![16, 128, 512]⟩
abbrev S16 : Shape := ⟨1, ![16]⟩
abbrev S2x32 : Shape := ⟨2, ![2, 32]⟩
abbrev S_ : Shape := ⟨0, ![]⟩

class Facts : Prop where
  bcast_S_S16x128x512 : S_.BroadcastsInDim S16x128x512 (![] : Fin 0 → Fin S16x128x512.rank)
  bcast_S_S16x128 : S_.BroadcastsInDim S16x128 (![] : Fin 0 → Fin S16x128.rank)
  bcast_S_S2x32 : S_.BroadcastsInDim S2x32 (![] : Fin 0 → Fin S2x32.rank)

variable [Facts]

def fn {F : FTy → Type} [FloatOps F] (main_arg0 : IVec S16x128 32) (main_arg1 : FVec F S16x128x512 .f32) (main_arg2 : FVec F S16x128 .f32) (main_arg3 : IVec S16 32) (main_arg4 : FVec F S2x32 .f32) (main_arg5 : FVec F S2x32 .f32) (main_arg6 : FVec F S2x32 .f32) (main_arg7 : FVec F S2x32 .f32) : IVec S16x128x512 1 × IVec S16x128 1 × IVec S2x32 1 × IVec S2x32 1 :=
  let main_v0 : FVec F S16x128x512 .f32 := Host.absf main_arg1
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_v3 : FVec F S16x128 .f32 := Host.absf main_arg2
  let main_cst_0 : FVec F S_ .f32 := constant S_ .f32 0x7F800000#32
  let main_v4 : FVec F S16x128 .f32 := broadcastInDim S16x128 ![] bcast_S_S16x128 main_cst_0
  let main_v5 : IVec S16x128 1 := cmpf .olt main_v3 main_v4
  let main_v6 : FVec F S2x32 .f32 := Host.absf main_arg5
  let main_cst_1 : FVec F S_ .f32 := constant S_ .f32 0x7F800000#32
  let main_v7 : FVec F S2x32 .f32 := broadcastInDim S2x32 ![] bcast_S_S2x32 main_cst_1
  let main_v8 : IVec S2x32 1 := cmpf .olt main_v6 main_v7
  let main_v9 : FVec F S2x32 .f32 := Host.absf main_arg7
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  (main_v2, main_v5, main_v8, main_v11)
-- ==== Kernel.lean ====
abbrev S16x128 : Shape := ⟨2, ![16, 128]⟩
abbrev S16x128x512 : Shape := ⟨3, ![16, 128, 512]⟩
abbrev S16 : Shape := ⟨1, ![16]⟩
abbrev S2x32 : Shape := ⟨2, ![2, 32]⟩
abbrev S1x2x32 : Shape := ⟨3, ![1, 2, 32]⟩
abbrev S4x2x32 : Shape := ⟨3, ![4, 2, 32]⟩
abbrev S4x2x32x1 : Shape := ⟨4, ![4, 2, 32, 1]⟩
abbrev S16x128x1x512 : Shape := ⟨4, ![16, 128, 1, 512]⟩
abbrev S16x128x1x1 : Shape := ⟨4, ![16, 128, 1, 1]⟩
abbrev S16x128x32x512 : Shape := ⟨4, ![16, 128, 32, 512]⟩
abbrev S1x128x1x512 : Shape := ⟨4, ![1, 128, 1, 512]⟩
abbrev S1x128x1x1 : Shape := ⟨4, ![1, 128, 1, 1]⟩
abbrev S2x128x32x512 : Shape := ⟨4, ![2, 128, 32, 512]⟩
abbrev S2x8 : Shape := ⟨2, ![2, 8]⟩
abbrev S1x1 : Shape := ⟨2, ![1, 1]⟩
abbrev S_ : Shape := ⟨0, ![]⟩
abbrev S1x16x32x512 : Shape := ⟨4, ![1, 16, 32, 512]⟩
abbrev S16x32x512 : Shape := ⟨3, ![16, 32, 512]⟩
abbrev S1 : Shape := ⟨1, ![1]⟩
abbrev S128x1x1 : Shape := ⟨3, ![128, 1, 1]⟩
abbrev S1x1x32x1 : Shape := ⟨4, ![1, 1, 32, 1]⟩
abbrev S32x1 : Shape := ⟨2, ![32, 1]⟩
abbrev S128x32x1 : Shape := ⟨3, ![128, 32, 1]⟩
abbrev S1x32x1 : Shape := ⟨3, ![1, 32, 1]⟩
abbrev S1x16x1x512 : Shape := ⟨4, ![1, 16, 1, 512]⟩
abbrev S16x1x512 : Shape := ⟨3, ![16, 1, 512]⟩
abbrev S16x32x1 : Shape := ⟨3, ![16, 32, 1]⟩
abbrev S16x128x512x32 : Shape := ⟨4, ![16, 128, 512, 32]⟩

abbrev nBuf : Space → Nat
  | .hbm => 17
  | .vmem => 6
  | .smem => 1
  | _ => 0

abbrev bufTy : (tb : Table) → Fin (tcTables nBuf tb) → BufTy
  | .hbm, ⟨0, _⟩ => ⟨S16x128, .i32⟩
  | .hbm, ⟨1, _⟩ => ⟨S16x128x512, .f32⟩
  | .hbm, ⟨2, _⟩ => ⟨S16x128, .f32⟩
  | .hbm, ⟨3, _⟩ => ⟨S2x32, .f32⟩
  | .hbm, ⟨4, _⟩ => ⟨S2x32, .f32⟩
  | .hbm, ⟨5, _⟩ => ⟨S2x32, .f32⟩
  | .hbm, ⟨6, _⟩ => ⟨S2x32, .f32⟩
  | .hbm, ⟨7, _⟩ => ⟨S1x2x32, .f32⟩
  | .hbm, ⟨8, _⟩ => ⟨S1x2x32, .f32⟩
  | .hbm, ⟨9, _⟩ => ⟨S1x2x32, .f32⟩
  | .hbm, ⟨10, _⟩ => ⟨S1x2x32, .f32⟩
  | .hbm, ⟨11, _⟩ => ⟨S4x2x32, .f32⟩
  | .hbm, ⟨12, _⟩ => ⟨S4x2x32x1, .f32⟩
  | .hbm, ⟨13, _⟩ => ⟨S16x128x1x512, .f32⟩
  | .hbm, ⟨14, _⟩ => ⟨S16x128x1x1, .f32⟩
  | .hbm, ⟨15, _⟩ => ⟨S16x128x32x512, .f32⟩
  | .hbm, ⟨16, _⟩ => ⟨S16x128x512x32, .f32⟩
  | .local _ .vmem, ⟨0, _⟩ => ⟨S1x128x1x512, .f32⟩
  | .local _ .vmem, ⟨1, _⟩ => ⟨S1x128x1x512, .f32⟩
  | .local _ .vmem, ⟨2, _⟩ => ⟨S1x128x1x1, .f32⟩
  | .local _ .vmem, ⟨3, _⟩ => ⟨S1x128x1x1, .f32⟩
  | .local _ .vmem, ⟨4, _⟩ => ⟨S4x2x32x1, .f32⟩
  | .local _ .vmem, ⟨5, _⟩ => ⟨S2x128x32x512, .f32⟩
  | .local _ .smem, ⟨0, _⟩ => ⟨S16, .i32⟩
  | _, _ => ⟨S16x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c2_i32_0 : BitVec 32 := 2#32
  let v1 : BitVec 1 := Scalar.cmpi .sge arg0 c2_i32_0
  let v2 : BitVec 32 := Scalar.extui v1
  let c0_i32 : BitVec 32 := 0#32
  let v3 : BitVec 1 := Scalar.cmpi .ne v2 c0_i32
  v3

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_146 : BitVec 32 := 0#32
  ![v0.toNat, 0]
def k0_off2 (i : grid0.Coords) : Fin 4 → Nat :=
  let arg0 : BitVec 32 := BitVec.ofNat 32 (i 0).val
  let c2_i32 : BitVec 32 := 2#32
  let v0 : BitVec 32 := Scalar.remsi arg0 c2_i32
  let c0_i32_150 : BitVec 32 := 0#32
  let c0_i32_151 : BitVec 32 := 0#32
  let c0_i32_152 : BitVec 32 := 0#32
  ![v0.toNat, 0, 0, 0]
def k0_off3 (i : grid0.Coords) : Fin 2 → Nat :=
  let arg0 : BitVec 32 := BitVec.ofNat 32 (i 0).val
  let c2_i32 : BitVec 32 := 2#32
  let v0 : BitVec 32 := Scalar.remsi arg0 c2_i32
  let c1_i32_154 : BitVec 32 := 1#32
  ![v0.toNat, 1]
def k0_off4 (i : grid0.Coords) : Fin 4 → Nat :=
  let arg0 : BitVec 32 := BitVec.ofNat 32 (i 0).val
  let c2_i32 : BitVec 32 := 2#32
  let v0 : BitVec 32 := Scalar.remsi arg0 c2_i32
  let c16_i32_158 : BitVec 32 := 16#32
  let c0_i32_159 : BitVec 32 := 0#32
  let c0_i32_160 : BitVec 32 := 0#32
  ![v0.toNat, 16, 0, 0]
def k0_off5 (i : grid0.Coords) : Fin 2 → Nat :=
  let arg0 : BitVec 32 := BitVec.ofNat 32 (i 0).val
  let c2_i32 : BitVec 32 := 2#32
  let v0 : BitVec 32 := Scalar.remsi arg0 c2_i32
  let c2_i32_162 : BitVec 32 := 2#32
  ![v0.toNat, 2]
def k0_off6 (i : grid0.Coords) : Fin 4 → Nat :=
  let arg0 : BitVec 32 := BitVec.ofNat 32 (i 0).val
  let c2_i32 : BitVec 32 := 2#32
  let v0 : BitVec 32 := Scalar.remsi arg0 c2_i32
  let c32_i32_166 : BitVec 32 := 32#32
  let c0_i32_167 : BitVec 32 := 0#32
  let c0_i32_168 : BitVec 32 := 0#32
  ![v0.toNat, 32, 0, 0]
def k0_off7 (i : grid0.Coords) : Fin 2 → Nat :=
  let arg0 : BitVec 32 := BitVec.ofNat 32 (i 0).val
  let c2_i32 : BitVec 32 := 2#32
  let v0 : BitVec 32 := Scalar.remsi arg0 c2_i32
  let c3_i32_170 : BitVec 32 := 3#32
  ![v0.toNat, 3]
def k0_off8 (i : grid0.Coords) : Fin 4 → Nat :=
  let arg0 : BitVec 32 := BitVec.ofNat 32 (i 0).val
  let c2_i32 : BitVec 32 := 2#32
  let v0 : BitVec 32 := Scalar.remsi arg0 c2_i32
  let c48_i32_174 : BitVec 32 := 48#32
  let c0_i32_175 : BitVec 32 := 0#32
  let c0_i32_176 : BitVec 32 := 0#32
  ![v0.toNat, 48, 0, 0]
def k0_off9 (i : grid0.Coords) : Fin 2 → Nat :=
  let arg0 : BitVec 32 := BitVec.ofNat 32 (i 0).val
  let c2_i32 : BitVec 32 := 2#32
  let v0 : BitVec 32 := Scalar.remsi arg0 c2_i32
  let c4_i32_178 : BitVec 32 := 4#32
  ![v0.toNat, 4]
def k0_off10 (i : grid0.Coords) : Fin 4 → Nat :=
  let arg0 : BitVec 32 := BitVec.ofNat 32 (i 0).val
  let c2_i32 : BitVec 32 := 2#32
  let v0 : BitVec 32 := Scalar.remsi arg0 c2_i32
  let c64_i32_182 : BitVec 32 := 64#32
  let c0_i32_183 : BitVec 32 := 0#32
  let c0_i32_184 : BitVec 32 := 0#32
  ![v0.toNat, 64, 0, 0]
def k0_off11 (i : grid0.Coords) : Fin 2 → Nat :=
  let arg0 : BitVec 32 := BitVec.ofNat 32 (i 0).val
  let c2_i32 : BitVec 32 := 2#32
  let v0 : BitVec 32 := Scalar.remsi arg0 c2_i32
  let c5_i32_186 : BitVec 32 := 5#32
  ![v0.toNat, 5]
def k0_off12 (i : grid0.Coords) : Fin 4 → Nat :=
  let arg0 : BitVec 32 := BitVec.ofNat 32 (i 0).val
  let c2_i32 : BitVec 32 := 2#32
  let v0 : BitVec 32 := Scalar.remsi arg0 c2_i32
  let c80_i32_190 : BitVec 32 := 80#32
  let c0_i32_191 : BitVec 32 := 0#32
  let c0_i32_192 : BitVec 32 := 0#32
  ![v0.toNat, 80, 0, 0]
def k0_off13 (i : grid0.Coords) : Fin 2 → Nat :=
  let arg0 : BitVec 32 := BitVec.ofNat 32 (i 0).val
  let c2_i32 : BitVec 32 := 2#32
  let v0 : BitVec 32 := Scalar.remsi arg0 c2_i32
  let c6_i32_194 : BitVec 32 := 6#32
  ![v0.toNat, 6]
def k0_off14 (i : grid0.Coords) : Fin 4 → Nat :=
  let arg0 : BitVec 32 := BitVec.ofNat 32 (i 0).val
  let c2_i32 : BitVec 32 := 2#32
  let v0 : BitVec 32 := Scalar.remsi arg0 c2_i32
  let c96_i32_198 : BitVec 32 := 96#32
  let c0_i32_199 : BitVec 32 := 0#32
  let c0_i32_200 : BitVec 32 := 0#32
  ![v0.toNat, 96, 0, 0]
def k0_off15 (i : grid0.Coords) : Fin 2 → Nat :=
  let arg0 : BitVec 32 := BitVec.ofNat 32 (i 0).val
  let c2_i32 : BitVec 32 := 2#32
  let v0 : BitVec 32 := Scalar.remsi arg0 c2_i32
  let c7_i32_202 : BitVec 32 := 7#32
  ![v0.toNat, 7]
def k0_off16 (i : grid0.Coords) : Fin 4 → Nat :=
  let arg0 : BitVec 32 := BitVec.ofNat 32 (i 0).val
  let c2_i32 : BitVec 32 := 2#32
  let v0 : BitVec 32 := Scalar.remsi arg0 c2_i32
  let c112_i32_206 : BitVec 32 := 112#32
  let c0_i32_207 : BitVec 32 := 0#32
  let c0_i32_208 : BitVec 32 := 0#32
  ![v0.toNat, 112, 0, 0]
def k0_off17 (i : grid0.Coords) : Fin 1 → Nat :=
  let arg0 : BitVec 32 := BitVec.ofNat 32 (i 0).val
  let v4 : Index := Scalar.indexCast arg0
  ![v4.toNat]
def k0_off18 (i : grid0.Coords) : Fin 4 → Nat :=
  let arg0 : BitVec 32 := BitVec.ofNat 32 (i 0).val
  let c2_i32 : BitVec 32 := 2#32
  let v0 : BitVec 32 := Scalar.remsi arg0 c2_i32
  let v82 : Index := Scalar.indexCast v0
  let c0_56 : Index := 0#32
  let c0_57 : Index := 0#32
  let c0_58 : Index := 0#32
  ![v82.toNat, 0, 0, 0]
def k0_off19 (i : grid0.Coords) : Fin 2 → Nat :=
  let arg0 : BitVec 32 := BitVec.ofNat 32 (i 0).val
  let c2_i32 : BitVec 32 := 2#32
  let v0 : BitVec 32 := Scalar.remsi arg0 c2_i32
  let c0_i32_59 : BitVec 32 := 0#32
  ![v0.toNat, 0]
def k0_off20 (i : grid0.Coords) : Fin 4 → Nat :=
  let arg0 : BitVec 32 := BitVec.ofNat 32 (i 0).val
  let c0_i32_60 : BitVec 32 := 0#32
  let c0_i32_61 : BitVec 32 := 0#32
  let c0_i32_62 : BitVec 32 := 0#32
  ![arg0.toNat, 0, 0, 0]
def k0_off21 (i : grid0.Coords) : Fin 4 → Nat :=
  let arg0 : BitVec 32 := BitVec.ofNat 32 (i 0).val
  let c2_i32 : BitVec 32 := 2#32
  let v0 : BitVec 32 := Scalar.remsi arg0 c2_i32
  let c0_i32_63 : BitVec 32 := 0#32
  let c0_i32_64 : BitVec 32 := 0#32
  let c0_i32_65 : BitVec 32 := 0#32
  ![v0.toNat, 0, 0, 0]
def k0_off22 (i : grid0.Coords) : Fin 4 → Nat :=
  let arg0 : BitVec 32 := BitVec.ofNat 32 (i 0).val
  let c2_i32 : BitVec 32 := 2#32
  let v0 : BitVec 32 := Scalar.remsi arg0 c2_i32
  let v101 : Index := Scalar.indexCast v0
  let c16_69 : Index := 16#32
  let c0_70 : Index := 0#32
  let c0_71 : Index := 0#32
  ![v101.toNat, 16, 0, 0]
def k0_off23 (i : grid0.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k0_off24 (i : grid0.Coords) : Fin 4 → Nat :=
  let arg0 : BitVec 32 := BitVec.ofNat 32 (i 0).val
  let c16_i32 : BitVec 32 := 16#32
  let c0_i32_72 : BitVec 32 := 0#32
  let c0_i32_73 : BitVec 32 := 0#32
  ![arg0.toNat, 16, 0, 0]
def k0_off25 (i : grid0.Coords) : Fin 4 → Nat :=
  let arg0 : BitVec 32 := BitVec.ofNat 32 (i 0).val
  let c2_i32 : BitVec 32 := 2#32
  let v0 : BitVec 32 := Scalar.remsi arg0 c2_i32
  let c16_i32_74 : BitVec 32 := 16#32
  let c0_i32_75 : BitVec 32 := 0#32
  let c0_i32_76 : BitVec 32 := 0#32
  ![v0.toNat, 16, 0, 0]
def k0_off26 (i : grid0.Coords) : Fin 4 → Nat :=
  let arg0 : BitVec 32 := BitVec.ofNat 32 (i 0).val
  let c2_i32 : BitVec 32 := 2#32
  let v0 : BitVec 32 := Scalar.remsi arg0 c2_i32
  let v120 : Index := Scalar.indexCast v0
  let c32_80 : Index := 32#32
  let c0_81 : Index := 0#32
  let c0_82 : Index := 0#32
  ![v120.toNat, 32, 0, 0]
def k0_off27 (i : grid0.Coords) : Fin 2 → Nat :=
  let arg0 : BitVec 32 := BitVec.ofNat 32 (i 0).val
  let c2_i32 : BitVec 32 := 2#32
  let v0 : BitVec 32 := Scalar.remsi arg0 c2_i32
  let c2_i32_83 : BitVec 32 := 2#32
  ![v0.toNat, 2]
def k0_off28 (i : grid0.Coords) : Fin 4 → Nat :=
  let arg0 : BitVec 32 := BitVec.ofNat 32 (i 0).val
  let c32_i32 : BitVec 32 := 32#32
  let c0_i32_84 : BitVec 32 := 0#32
  let c0_i32_85 : BitVec 32 := 0#32
  ![arg0.toNat, 32, 0, 0]
def k0_off29 (i : grid0.Coords) : Fin 4 → Nat :=
  let arg0 : BitVec 32 := BitVec.ofNat 32 (i 0).val
  let c2_i32 : BitVec 32 := 2#32
  let v0 : BitVec 32 := Scalar.remsi arg0 c2_i32
  let c32_i32_86 : BitVec 32 := 32#32
  let c0_i32_87 : BitVec 32 := 0#32
  let c0_i32_88 : BitVec 32 := 0#32
  ![v0.toNat, 32, 0, 0]
def k0_off30 (i : grid0.Coords) : Fin 4 → Nat :=
  let arg0 : BitVec 32 := BitVec.ofNat 32 (i 0).val
  let c2_i32 : BitVec 32 := 2#32
  let v0 : BitVec 32 := Scalar.remsi arg0 c2_i32
  let v139 : Index := Scalar.indexCast v0
  let c48_92 : Index := 48#32
  let c0_93 : Index := 0#32
  let c0_94 : Index := 0#32
  ![v139.toNat, 48, 0, 0]
def k0_off31 (i : grid0.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k0_off32 (i : grid0.Coords) : Fin 4 → Nat :=
  let arg0 : BitVec 32 := BitVec.ofNat 32 (i 0).val
  let c48_i32 : BitVec 32 := 48#32
  let c0_i32_95 : BitVec 32 := 0#32
  let c0_i32_96 : BitVec 32 := 0#32
  ![arg0.toNat, 48, 0, 0]
def k0_off33 (i : grid0.Coords) : Fin 4 → Nat :=
  let arg0 : BitVec 32 := BitVec.ofNat 32 (i 0).val
  let c2_i32 : BitVec 32 := 2#32
  let v0 : BitVec 32 := Scalar.remsi arg0 c2_i32
  let c48_i32_97 : BitVec 32 := 48#32
  let c0_i32_98 : BitVec 32 := 0#32
  let c0_i32_99 : BitVec 32 := 0#32
  ![v0.toNat, 48, 0, 0]
def k0_off34 (i : grid0.Coords) : Fin 4 → Nat :=
  let arg0 : BitVec 32 := BitVec.ofNat 32 (i 0).val
  let c2_i32 : BitVec 32 := 2#32
  let v0 : BitVec 32 := Scalar.remsi arg0 c2_i32
  let v158 : Index := Scalar.indexCast v0
  let c64_103 : Index := 64#32
  let c0_104 : Index := 0#32
  let c0_105 : Index := 0#32
  ![v158.toNat, 64, 0, 0]
def k0_off35 (i : grid0.Coords) : Fin 2 → Nat :=
  let arg0 : BitVec 32 := BitVec.ofNat 32 (i 0).val
  let c2_i32 : BitVec 32 := 2#32
  let v0 : BitVec 32 := Scalar.remsi arg0 c2_i32
  let c4_i32 : BitVec 32 := 4#32
  ![v0.toNat, 4]
def k0_off36 (i : grid0.Coords) : Fin 4 → Nat :=
  let arg0 : BitVec 32 := BitVec.ofNat 32 (i 0).val
  let c64_i32 : BitVec 32 := 64#32
  let c0_i32_106 : BitVec 32 := 0#32
  let c0_i32_107 : BitVec 32 := 0#32
  ![arg0.toNat, 64, 0, 0]
def k0_off37 (i : grid0.Coords) : Fin 4 → Nat :=
  let arg0 : BitVec 32 := BitVec.ofNat 32 (i 0).val
  let c2_i32 : BitVec 32 := 2#32
  let v0 : BitVec 32 := Scalar.remsi arg0 c2_i32
  let c64_i32_108 : BitVec 32 := 64#32
  let c0_i32_109 : BitVec 32 := 0#32
  let c0_i32_110 : BitVec 32 := 0#32
  ![v0.toNat, 64, 0, 0]
def k0_off38 (i : grid0.Coords) : Fin 4 → Nat :=
  let arg0 : BitVec 32 := BitVec.ofNat 32 (i 0).val
  let c2_i32 : BitVec 32 := 2#32
  let v0 : BitVec 32 := Scalar.remsi arg0 c2_i32
  let v177 : Index := Scalar.indexCast v0
  let c80_114 : Index := 80#32
  let c0_115 : Index := 0#32
  let c0_116 : Index := 0#32
  ![v177.toNat, 80, 0, 0]
def k0_off39 (i : grid0.Coords) : Fin 2 → Nat :=
  let arg0 : BitVec 32 := BitVec.ofNat 32 (i 0).val
  let c2_i32 : BitVec 32 := 2#32
  let v0 : BitVec 32 := Scalar.remsi arg0 c2_i32
  let c5_i32 : BitVec 32 := 5#32
  ![v0.toNat, 5]
def k0_off40 (i : grid0.Coords) : Fin 4 → Nat :=
  let arg0 : BitVec 32 := BitVec.ofNat 32 (i 0).val
  let c80_i32 : BitVec 32 := 80#32
  let c0_i32_117 : BitVec 32 := 0#32
  let c0_i32_118 : BitVec 32 := 0#32
  ![arg0.toNat, 80, 0, 0]
def k0_off41 (i : grid0.Coords) : Fin 4 → Nat :=
  let arg0 : BitVec 32 := BitVec.ofNat 32 (i 0).val
  let c2_i32 : BitVec 32 := 2#32
  let v0 : BitVec 32 := Scalar.remsi arg0 c2_i32
  let c80_i32_119 : BitVec 32 := 80#32
  let c0_i32_120 : BitVec 32 := 0#32
  let c0_i32_121 : BitVec 32 := 0#32
  ![v0.toNat, 80, 0, 0]
def k0_off42 (i : grid0.Coords) : Fin 4 → Nat :=
  let arg0 : BitVec 32 := BitVec.ofNat 32 (i 0).val
  let c2_i32 : BitVec 32 := 2#32
  let v0 : BitVec 32 := Scalar.remsi arg0 c2_i32
  let v196 : Index := Scalar.indexCast v0
  let c96_125 : Index := 96#32
  let c0_126 : Index := 0#32
  let c0_127 : Index := 0#32
  ![v196.toNat, 96, 0, 0]
def k0_off43 (i : grid0.Coords) : Fin 2 → Nat :=
  let arg0 : BitVec 32 := BitVec.ofNat 32 (i 0).val
  let c2_i32 : BitVec 32 := 2#32
  let v0 : BitVec 32 := Scalar.remsi arg0 c2_i32
  let c6_i32 : BitVec 32 := 6#32
  ![v0.toNat, 6]
def k0_off44 (i : grid0.Coords) : Fin 4 → Nat :=
  let arg0 : BitVec 32 := BitVec.ofNat 32 (i 0).val
  let c96_i32 : BitVec 32 := 96#32
  let c0_i32_128 : BitVec 32 := 0#32
  let c0_i32_129 : BitVec 32 := 0#32
  ![arg0.toNat, 96, 0, 0]
def k0_off45 (i : grid0.Coords) : Fin 4 → Nat :=
  let arg0 : BitVec 32 := BitVec.ofNat 32 (i 0).val
  let c2_i32 : BitVec 32 := 2#32
  let v0 : BitVec 32 := Scalar.remsi arg0 c2_i32
  let c96_i32_130 : BitVec 32 := 96#32
  let c0_i32_131 : BitVec 32 := 0#32
  let c0_i32_132 : BitVec 32 := 0#32
  ![v0.toNat, 96, 0, 0]
def k0_off46 (i : grid0.Coords) : Fin 4 → Nat :=
  let arg0 : BitVec 32 := BitVec.ofNat 32 (i 0).val
  let c2_i32 : BitVec 32 := 2#32
  let v0 : BitVec 32 := Scalar.remsi arg0 c2_i32
  let v215 : Index := Scalar.indexCast v0
  let c112_136 : Index := 112#32
  let c0_137 : Index := 0#32
  let c0_138 : Index := 0#32
  ![v215.toNat, 112, 0, 0]
def k0_off47 (i : grid0.Coords) : Fin 2 → Nat :=
  let arg0 : BitVec 32 := BitVec.ofNat 32 (i 0).val
  let c2_i32 : BitVec 32 := 2#32
  let v0 : BitVec 32 := Scalar.remsi arg0 c2_i32
  let c7_i32 : BitVec 32 := 7#32
  ![v0.toNat, 7]
def k0_off48 (i : grid0.Coords) : Fin 4 → Nat :=
  let arg0 : BitVec 32 := BitVec.ofNat 32 (i 0).val
  let c112_i32 : BitVec 32 := 112#32
  let c0_i32_139 : BitVec 32 := 0#32
  let c0_i32_140 : BitVec 32 := 0#32
  ![arg0.toNat, 112, 0, 0]
def k0_off49 (i : grid0.Coords) : Fin 4 → Nat :=
  let arg0 : BitVec 32 := BitVec.ofNat 32 (i 0).val
  let c2_i32 : BitVec 32 := 2#32
  let v0 : BitVec 32 := Scalar.remsi arg0 c2_i32
  let c112_i32_141 : BitVec 32 := 112#32
  let c0_i32_142 : BitVec 32 := 0#32
  let c0_i32_143 : BitVec 32 := 0#32
  ![v0.toNat, 112, 0, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1x128x1x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x2x32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_s" => some ((1 / 100 : ℝ) : EReal)
  | "inv_t" => some ((1 / 1000 : ℝ) : EReal)
  | _ => none
-- ==== ReferenceIdeal.lean ====
abbrev S16x128 : Shape := ⟨2, ![16, 128]⟩
abbrev S16x128x512 : Shape := ⟨3, ![16, 128, 512]⟩
abbrev S16 : Shape := ⟨1, ![16]⟩
abbrev S2x32 : Shape := ⟨2, ![2, 32]⟩
abbrev S16x128x1 : Shape := ⟨3, ![16, 128, 1]⟩
abbrev S128 : Shape := ⟨1, ![128]⟩
abbrev S1x128 : Shape := ⟨2, ![1, 128]⟩
abbrev S16x1 : Shape := ⟨2, ![16, 1]⟩
abbrev S_ : Shape := ⟨0, ![]⟩
abbrev S16x128x1x1 : Shape := ⟨4, ![16, 128, 1, 1]⟩
abbrev S1 : Shape := ⟨1, ![1]⟩
abbrev S1x1x1x1 : Shape := ⟨4, ![1, 1, 1, 1]⟩
abbrev S16x128x1x32 : Shape := ⟨4, ![16, 128, 1, 32]⟩
abbrev S16x128x512x1 : Shape := ⟨4, ![16, 128, 512, 1]⟩
abbrev S16x128x512x32 : Shape := ⟨4, ![16, 128, 512, 32]⟩

abbrev nBuf : Space → Nat
  | .hbm => 145
  | .vmem => 0
  | .smem => 0
  | _ => 0

abbrev hbmTy0_0 (i : Nat) : BufTy := match i % 128 with
  | 0 => ⟨S16x128, .i32⟩
  | 1 => ⟨S16x128x512, .f32⟩
  | 2 => ⟨S16x128, .f32⟩
  | 3 => ⟨S16, .i32⟩
  | 4 => ⟨S2x32, .f32⟩
  | 5 => ⟨S2x32, .f32⟩
  | 6 => ⟨S2x32, .f32⟩
  | 7 => ⟨S2x32, .f32⟩
  | 8 => ⟨S16x128x1, .f32⟩
  | 9 => ⟨S128, .i32⟩
  | 10 => ⟨S1x128, .i32⟩
  | 11 => ⟨S16x1, .i32⟩
  | 12 => ⟨S16x128, .i32⟩
  | 13 => ⟨S16x128, .i32⟩
  | 14 => ⟨S16x128, .i1⟩
  | 15 => ⟨S16x128, .i32⟩
  | 16 => ⟨S16x128x1, .i32⟩
  | 17 => ⟨S_, .i32⟩
  | 18 => ⟨S16x128x1, .i32⟩
  | 19 => ⟨S16x128x1, .i1⟩
  | 20 => ⟨S_, .i32⟩
  | 21 => ⟨S16x128x1, .i32⟩
  | 22 => ⟨S16x128x1, .i32⟩
  | 23 => ⟨S16x128x1, .i32⟩
  | 24 => ⟨S16x128x1x1, .i32⟩
  | 25 => ⟨S1, .i32⟩
  | 26 => ⟨S_, .i32⟩
  | 27 => ⟨S16x128x1x1, .i32⟩
  | 28 => ⟨S16x128x1x1, .i1⟩
  | 29 => ⟨S1x1x1x1, .i32⟩
  | 30 => ⟨S16x128x1x1, .i32⟩
  | 31 => ⟨S16x128x1x1, .i1⟩
  | 32 => ⟨S16x128x1x1, .i1⟩
  | 33 => ⟨S_, .i1⟩
  | 34 => ⟨S16x128x1, .i1⟩
  | 35 => ⟨S16x128x1x32, .f32⟩
  | 36 => ⟨S16x128x1x32, .i1⟩
  | 37 => ⟨S_, .f32⟩
  | 38 => ⟨S16x128x1x32, .f32⟩
  | 39 => ⟨S16x128x1x32, .f32⟩
  | 40 => ⟨S_, .i32⟩
  | 41 => ⟨S16x128x1, .i32⟩
  | 42 => ⟨S16x128x1, .i1⟩
  | 43 => ⟨S_, .i32⟩
  | 44 => ⟨S16x128x1, .i32⟩
  | 45 => ⟨S16x128x1, .i32⟩
  | 46 => ⟨S16x128x1, .i32⟩
  | 47 => ⟨S16x128x1x1, .i32⟩
  | 48 => ⟨S1, .i32⟩
  | 49 => ⟨S_, .i32⟩
  | 50 => ⟨S16x128x1x1, .i32⟩
  | 51 => ⟨S16x128x1x1, .i1⟩
  | 52 => ⟨S1x1x1x1, .i32⟩
  | 53 => ⟨S16x128x1x1, .i32⟩
  | 54 => ⟨S16x128x1x1, .i1⟩
  | 55 => ⟨S16x128x1x1, .i1⟩
  | 56 => ⟨S_, .i1⟩
  | 57 => ⟨S16x128x1, .i1⟩
  | 58 => ⟨S16x128x1x32, .f32⟩
  | 59 => ⟨S16x128x1x32, .i1⟩
  | 60 => ⟨S_, .f32⟩
  | 61 => ⟨S16x128x1x32, .f32⟩
  | 62 => ⟨S16x128x1x32, .f32⟩
  | 63 => ⟨S_, .i32⟩
  | 64 => ⟨S16x128x1, .i32⟩
  | 65 => ⟨S16x128x1, .i1⟩
  | 66 => ⟨S_, .i32⟩
  | 67 => ⟨S16x128x1, .i32⟩
  | 68 => ⟨S16x128x1, .i32⟩
  | 69 => ⟨S16x128x1, .i32⟩
  | 70 => ⟨S16x128x1x1, .i32⟩
  | 71 => ⟨S1, .i32⟩
  | 72 => ⟨S_, .i32⟩
  | 73 => ⟨S16x128x1x1, .i32⟩
  | 74 => ⟨S16x128x1x1, .i1⟩
  | 75 => ⟨S1x1x1x1, .i32⟩
  | 76 => ⟨S16x128x1x1, .i32⟩
  | 77 => ⟨S16x128x1x1, .i1⟩
  | 78 => ⟨S16x128x1x1, .i1⟩
  | 79 => ⟨S_, .i1⟩
  | 80 => ⟨S16x128x1, .i1⟩
  | 81 => ⟨S16x128x1x32, .f32⟩
  | 82 => ⟨S16x128x1x32, .i1⟩
  | 83 => ⟨S_, .f32⟩
  | 84 => ⟨S16x128x1x32, .f32⟩
  | 85 => ⟨S16x128x1x32, .f32⟩
  | 86 => ⟨S_, .i32⟩
  | 87 => ⟨S16x128x1, .i32⟩
  | 88 => ⟨S16x128x1, .i1⟩
  | 89 => ⟨S_, .i32⟩
  | 90 => ⟨S16x128x1, .i32⟩
  | 91 => ⟨S16x128x1, .i32⟩
  | 92 => ⟨S16x128x1, .i32⟩
  | 93 => ⟨S16x128x1x1, .i32⟩
  | 94 => ⟨S1, .i32⟩
  | 95 => ⟨S_, .i32⟩
  | 96 => ⟨S16x128x1x1, .i32⟩
  | 97 => ⟨S16x128x1x1, .i1⟩
  | 98 => ⟨S1x1x1x1, .i32⟩
  | 99 => ⟨S16x128x1x1, .i32⟩
  | 100 => ⟨S16x128x1x1, .i1⟩
  | 101 => ⟨S16x128x1x1, .i1⟩
  | 102 => ⟨S_, .i1⟩
  | 103 => ⟨S16x128x1, .i1⟩
  | 104 => ⟨S16x128x1x32, .f32⟩
  | 105 => ⟨S16x128x1x32, .i1⟩
  | 106 => ⟨S_, .f32⟩
  | 107 => ⟨S16x128x1x32, .f32⟩
  | 108 => ⟨S16x128x1x32, .f32⟩
  | 109 => ⟨S_, .f32⟩
  | 110 => ⟨S16x128x512, .f32⟩
  | 111 => ⟨S16x128x512, .f32⟩
  | 112 => ⟨S16x128x512x1, .f32⟩
  | 113 => ⟨S_, .f32⟩
  | 114 => ⟨S16x128x512, .f32⟩
  | 115 => ⟨S16x128x512, .f32⟩
  | 116 => ⟨S16x128x512x1, .f32⟩
  | 117 => ⟨S_, .f32⟩
  | 118 => ⟨S16x128x1, .f32⟩
  | 119 => ⟨S16x128x1, .f32⟩
  | 120 => ⟨S16x128x1x1, .f32⟩
  | 121 => ⟨S_, .f32⟩
  | 122 => ⟨S16x128x1, .f32⟩
  | 123 => ⟨S16x128x1, .f32⟩
  | 124 => ⟨S16x128x1x1, .f32⟩
  | 125 => ⟨S16x128x512x32, .f32⟩
  | 126 => ⟨S16x128x512x32, .f32⟩
  | 127 => ⟨S16x128x512x32, .f32⟩
  | _ => ⟨S16x128, .i32⟩

abbrev hbmTy0_1 (i : Nat) : BufTy := match i % 128 with
  | 0 => ⟨S16x128x512x32, .f32⟩
  | 1 => ⟨S16x128x512x32, .f32⟩
  | 2 => ⟨S16x128x512x32, .f32⟩
  | 3 => ⟨S16x128x512x32, .f32⟩
  | 4 => ⟨S_, .f32⟩
  | 5 => ⟨S16x128x512x32, .f32⟩
  | 6 => ⟨S16x128x512x32, .f32⟩
  | 7 => ⟨S16x128x1x32, .f32⟩
  | 8 => ⟨S16x128x1x32, .f32⟩
  | 9 => ⟨S16x128x1x32, .f32⟩
  | 10 => ⟨S16x128x1x32, .f32⟩
  | 11 => ⟨S16x128x1x32, .f32⟩
  | 12 => ⟨S_, .f32⟩
  | 13 => ⟨S16x128x1x32, .f32⟩
  | 14 => ⟨S16x128x1x32, .f32⟩
  | 15 => ⟨S16x128x512x32, .f32⟩
  | 16 => ⟨S16x128x512x32, .f32⟩
  | _ => ⟨S16x128, .i32⟩

abbrev hbmTy (i : Nat) : BufTy := match i / 128 with
  | 0 => hbmTy0_0 i
  | 1 => hbmTy0_1 i
  | _ => ⟨S16x128, .i32⟩

abbrev bufTy : (tb : Table) → Fin (tcTables nBuf tb) → BufTy
  | .hbm, ⟨i, _⟩ => hbmTy i
  | _, _ => ⟨S16x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v9 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_v14 : Ref sig .tc := ⟨.hbm, 59, rfl⟩
abbrev main_call1_cst : Ref sig .tc := ⟨.hbm, 60, rfl⟩
abbrev main_call1_v15 : Ref sig .tc := ⟨.hbm, 61, rfl⟩
abbrev main_v10 : Ref sig .tc := ⟨.hbm, 62, rfl⟩
abbrev main_call2_c : Ref sig .tc := ⟨.hbm, 63, rfl⟩
abbrev main_call2_v0 : Ref sig .tc := ⟨.hbm, 64, rfl⟩
abbrev main_call2_v1 : Ref sig .tc := ⟨.hbm, 65, rfl⟩
abbrev main_call2_c_0 : Ref sig .tc := ⟨.hbm, 66, rfl⟩
abbrev main_call2_v2 : Ref sig .tc := ⟨.hbm, 67, rfl⟩
abbrev main_call2_v3 : Ref sig .tc := ⟨.hbm, 68, rfl⟩
abbrev main_call2_v4 : Ref sig .tc := ⟨.hbm, 69, rfl⟩
abbrev main_call2_v5 : Ref sig .tc := ⟨.hbm, 70, rfl⟩
abbrev main_call2_c_1 : Ref sig .tc := ⟨.hbm, 71, rfl⟩
abbrev main_call2_c_2 : Ref sig .tc := ⟨.hbm, 72, rfl⟩
abbrev main_call2_v6 : Ref sig .tc := ⟨.hbm, 73, rfl⟩
abbrev main_call2_v7 : Ref sig .tc := ⟨.hbm, 74, rfl⟩
abbrev main_call2_v8 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_c_3 : Ref sig .tc := ⟨.hbm, 79, rfl⟩
abbrev main_call2_v12 : Ref sig .tc := ⟨.hbm, 80, rfl⟩
abbrev main_call2_v13 : Ref sig .tc := ⟨.hbm, 81, rfl⟩
abbrev main_call2_v14 : Ref sig .tc := ⟨.hbm, 82, rfl⟩
abbrev main_call2_cst : Ref sig .tc := ⟨.hbm, 83, rfl⟩
abbrev main_call2_v15 : Ref sig .tc := ⟨.hbm, 84, rfl⟩
abbrev main_v11 : Ref sig .tc := ⟨.hbm, 85, rfl⟩
abbrev main_call3_c : Ref sig .tc := ⟨.hbm, 86, rfl⟩
abbrev main_call3_v0 : Ref sig .tc := ⟨.hbm, 87, rfl⟩
abbrev main_call3_v1 : Ref sig .tc := ⟨.hbm, 88, rfl⟩
abbrev main_call3_c_0 : Ref sig .tc := ⟨.hbm, 89, rfl⟩
abbrev main_call3_v2 : Ref sig .tc := ⟨.hbm, 90, rfl⟩
abbrev main_call3_v3 : Ref sig .tc := ⟨.hbm, 91, rfl⟩
abbrev main_call3_v4 : Ref sig .tc := ⟨.hbm, 92, rfl⟩
abbrev main_call3_v5 : Ref sig .tc := ⟨.hbm, 93, rfl⟩
abbrev main_call3_c_1 : Ref sig .tc := ⟨.hbm, 94, rfl⟩
abbrev main_call3_c_2 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_v9 : Ref sig .tc := ⟨.hbm, 99, rfl⟩
abbrev main_call3_v10 : Ref sig .tc := ⟨.hbm, 100, rfl⟩
abbrev main_call3_v11 : Ref sig .tc := ⟨.hbm, 101, rfl⟩
abbrev main_call3_c_3 : Ref sig .tc := ⟨.hbm, 102, rfl⟩
abbrev main_call3_v12 : Ref sig .tc := ⟨.hbm, 103, rfl⟩
abbrev main_call3_v13 : Ref sig .tc := ⟨.hbm, 104, rfl⟩
abbrev main_call3_v14 : Ref sig .tc := ⟨.hbm, 105, rfl⟩
abbrev main_call3_cst : Ref sig .tc := ⟨.hbm, 106, rfl⟩
abbrev main_call3_v15 : Ref sig .tc := ⟨.hbm, 107, rfl⟩
abbrev main_v12 : Ref sig .tc := ⟨.hbm, 108, rfl⟩
abbrev main_cst : Ref sig .tc := ⟨.hbm, 109, rfl⟩
abbrev main_v13 : Ref sig .tc := ⟨.hbm, 110, rfl⟩
abbrev main_v14 : Ref sig .tc := ⟨.hbm, 111, rfl⟩
abbrev main_v15 : Ref sig .tc := ⟨.hbm, 112, rfl⟩
abbrev main_cst_0 : Ref sig .tc := ⟨.hbm, 113, rfl⟩
abbrev main_v16 : Ref sig .tc := ⟨.hbm, 114, rfl⟩
abbrev main_v17 : Ref sig .tc := ⟨.hbm, 115, rfl⟩
abbrev main_v18 : Ref sig .tc := ⟨.hbm, 116, rfl⟩
abbrev main_cst_1 : Ref sig .tc := ⟨.hbm, 117, rfl⟩
abbrev main_v19 : Ref sig .tc := ⟨.hbm, 118, rfl⟩
abbrev main_v20 : Ref sig .tc := ⟨.hbm, 119, rfl⟩
abbrev main_v21 : Ref sig .tc := ⟨.hbm, 120, rfl⟩
abbrev main_cst_2 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_v26 : Ref sig .tc := ⟨.hbm, 126, rfl⟩
abbrev main_v27 : Ref sig .tc := ⟨.hbm, 127, rfl⟩
abbrev main_v28 : Ref sig .tc := ⟨.hbm, 128, rfl⟩
abbrev main_v29 : Ref sig .tc := ⟨.hbm, 129, rfl⟩
abbrev main_v30 : Ref sig .tc := ⟨.hbm, 130, rfl⟩
abbrev main_v31 : Ref sig .tc := ⟨.hbm, 131, rfl⟩
abbrev main_cst_3 : Ref sig .tc := ⟨.hbm, 132, rfl⟩
abbrev main_v32 : Ref sig .tc := ⟨.hbm, 133, rfl⟩
abbrev main_v33 : Ref sig .tc := ⟨.hbm, 134, rfl⟩
abbrev main_v34 : Ref sig .tc := ⟨.hbm, 135, rfl⟩
abbrev main_v35 : Ref sig .tc := ⟨.hbm, 136, rfl⟩
abbrev main_v36 : Ref sig .tc := ⟨.hbm, 137, rfl⟩
abbrev main_v37 : Ref sig .tc := ⟨.hbm, 138, rfl⟩
abbrev main_v38 : Ref sig .tc := ⟨.hbm, 139, rfl⟩
abbrev main_cst_4 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩

abbrev nD : Nat := 1
abbrev τ : Topo := Topo.v7x

variable {F : FTy → Type} [FloatOps F]
-- ==== Proof.Ring.lean ====
/-
  The vocabulary of the kernel's output ring, and the body's spellings rewritten to it.

  The result array `main_v8` (f32[16,128,32,512], left in HBM) is written by the body's own copies: at grid point `u`
  the body fills the eight tiles of one of the two slots of the VMEM scratch (slot `u % 2`; tile `r` is the sixteen
  rows from row `r`, `r = 0, 16, …, 112`) and copies each to the same rows of block `u` of the result, each copy on the
  slot's own cell for that tile. `tile`, `piece` and `csm` name the tile, the rows of the result and the cell; the
  equations tagged `sl_canon` say that the body's slices, whose offsets are chains of machine words, are these.
-/
module

public import proofs.«01_k».proof.Proof.Gen.KernelIdeal.Skeleton
public import proofs.«01_k».proof.Proof.Gen.KernelIdeal.Launch
public import Idealize.ShloMosaic.Lib.Ring.WriteBehind
public import Idealize.ShloMosaic.Lib.Ring
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The result and the scratch, whole. -/
abbrev outM : Memref sig .tc .hbm S16x128x32x512 .f32 := Memref.whole main_v8
abbrev scrM : Memref sig .tc .vmem S2x128x32x512 .f32 := Memref.whole cc0_scratch0

theorem tile_inb (g : Fin 2) (r : ℕ) (hr : r + 16 ≤ 128) :
    ∀ a, (![g.val, r, 0, 0] : Fin 4 → ℕ) a + S1x16x32x512.size a ≤ S2x128x32x512.size a := by
  have := g.isLt; intro a; fin_cases a
  · show g.val + 1 ≤ 2; omega
  · show r + 16 ≤ 128; omega
  · show 0 + 32 ≤ 32; omega
  · show 0 + 512 ≤ 512; omega
theorem piece_inb (u : Fin 16) (r : ℕ) (hr : r + 16 ≤ 128) :
    ∀ a, (![u.val, r, 0, 0] : Fin 4 → ℕ) a + S1x16x32x512.size a ≤ S16x128x32x512.size a := by
  have := u.isLt; intro a; fin_cases a
  · show u.val + 1 ≤ 16; omega
  · show r + 16 ≤ 128; omega
  · show 0 + 32 ≤ 32; omega
  · show 0 + 512 ≤ 512; omega
theorem csm_inb (g : Fin 2) (k : ℕ) (hk : k < 8) :
    ∀ a, (![g.val, k] : Fin 2 → ℕ) a + S1x1.size a ≤ S2x8.size a := by
  have := g.isLt; intro a; fin_cases a
  · show g.val + 1 ≤ 2; omega
  · show k + 1 ≤ 8; omega

/-- Tile `r` of slot `g` of the scratch. -/
def tile (g : Fin 2) (r : ℕ) (hr : r + 16 ≤ 128) : Memref sig .tc .vmem S16x32x512 .f32 :=
  (scrM.slice (Rect.unit (s := S2x128x32x512) ![g.val, r, 0, 0] S1x16x32x512.size (tile_inb g r hr)) (fun _ => rfl)).squeeze
    S16x32x512 squeezes_S1x16x32x512_S16x32x512
/-- The sixteen rows from row `r` of block `u` of the result. -/
def piece (u : Fin 16) (r : ℕ) (hr : r + 16 ≤ 128) : Memref sig .tc .hbm S16x32x512 .f32 :=
  (outM.slice (Rect.unit (s := S16x128x32x512) ![u.val, r, 0, 0] S1x16x32x512.size (piece_inb u r hr)) (fun _ => rfl)).squeeze
    S16x32x512 squeezes_S1x16x32x512_S16x32x512
/-- The `k`-th cell of slot `g`. -/
def csm (g : Fin 2) (k : ℕ) (hk : k < 8) : DmaSems sig S_ :=
  (cc0_scratch1.slice (Rect.unit (s := S2x8) ![g.val, k] S1x1.size (csm_inb g k hk))).squeeze S_ squeezes_S1x1_S_

private theorem csm_congr {off : Fin 2 → ℕ} {g : Fin 2} {k : ℕ} {hk : k < 8} (e : off = ![g.val, k]) (hh) :
    (cc0_scratch1.slice (Rect.unit (s := S2x8) off S1x1.size hh)).squeeze S_ squeezes_S1x1_S_ = csm g k hk :=
  congrArg (fun A : DmaSems sig S1x1 => A.squeeze S_ squeezes_S1x1_S_) (SemArray.slice_unit_congr _ e _ _)
private theorem tile_congr {off : Fin 4 → ℕ} {g : Fin 2} {r : ℕ} {hr : r + 16 ≤ 128} (e : off = ![g.val, r, 0, 0]) (hh hs) :
    (scrM.slice (Rect.unit (s := S2x128x32x512) off S1x16x32x512.size hh) hs).squeeze S16x32x512 squeezes_S1x16x32x512_S16x32x512 = tile g r hr :=
  congrArg (fun M : Memref sig .tc .vmem S1x16x32x512 .f32 => M.squeeze S16x32x512 squeezes_S1x16x32x512_S16x32x512) (Memref.slice_unit_congr _ e _ _ _ _)
private theorem piece_congr {off : Fin 4 → ℕ} {u : Fin 16} {r : ℕ} {hr : r + 16 ≤ 128} (e : off = ![u.val, r, 0, 0]) (hh hs) :
    (outM.slice (Rect.unit (s := S16x128x32x512) off S1x16x32x512.size hh) hs).squeeze S16x32x512 squeezes_S1x16x32x512_S16x32x512 = piece u r hr :=
  congrArg (fun M : Memref sig .tc .hbm S1x16x32x512 .f32 => M.squeeze S16x32x512 squeezes_S1x16x32x512_S16x32x512) (Memref.slice_unit_congr _ e _ _ _ _)

/-! ## The body's slices at a symbolic point, by name

The waits of the slot's earlier copies, the copies' cells, their ends. -/

@[sl_canon] theorem waitCell0 (i : grid0.Coords) (hh) : (cc0_scratch1.slice (Rect.unit (s := S2x8) (k0_off1 i) S1x1.size hh)).squeeze S_ squeezes_S1x1_S_ = csm (Ring.sl 2 (i 0).val) 0 (by omega) := csm_congr (k0_off1_eq i) _
@[sl_canon] theorem waitTile0 (i : grid0.Coords) (hh hs) : (scrM.slice (Rect.unit (s := S2x128x32x512) (k0_off2 i) S1x16x32x512.size hh) hs).squeeze S16x32x512 squeezes_S1x16x32x512_S16x32x512 = tile (Ring.sl 2 (i 0).val) 0 (by omega) := tile_congr (k0_off2_eq i) _ _
@[sl_canon] theorem copyCell0 (i : grid0.Coords) (hh) : (cc0_scratch1.slice (Rect.unit (s := S2x8) (k0_off19 i) S1x1.size hh)).squeeze S_ squeezes_S1x1_S_ = csm (Ring.sl 2 (i 0).val) 0 (by omega) := csm_congr (k0_off19_eq i) _
@[sl_canon] theorem copyDst0 (i : grid0.Coords) (hh hs) : (outM.slice (Rect.unit (s := S16x128x32x512) (k0_off20 i) S1x16x32x512.size hh) hs).squeeze S16x32x512 squeezes_S1x16x32x512_S16x32x512 = piece (i 0) 0 (by omega) := piece_congr (k0_off20_eq i) _ _
@[sl_canon] theorem copySrc0 (i : grid0.Coords) (hh hs) : (scrM.slice (Rect.unit (s := S2x128x32x512) (k0_off21 i) S1x16x32x512.size hh) hs).squeeze S16x32x512 squeezes_S1x16x32x512_S16x32x512 = tile (Ring.sl 2 (i 0).val) 0 (by omega) := tile_congr (k0_off21_eq i) _ _
@[sl_canon] theorem waitCell1 (i : grid0.Coords) (hh) : (cc0_scratch1.slice (Rect.unit (s := S2x8) (k0_off3 i) S1x1.size hh)).squeeze S_ squeezes_S1x1_S_ = csm (Ring.sl 2 (i 0).val) 1 (by omega) := csm_congr (k0_off3_eq i) _
@[sl_canon] theorem waitTile1 (i : grid0.Coords) (hh hs) : (scrM.slice (Rect.unit (s := S2x128x32x512) (k0_off4 i) S1x16x32x512.size hh) hs).squeeze S16x32x512 squeezes_S1x16x32x512_S16x32x512 = tile (Ring.sl 2 (i 0).val) 16 (by omega) := tile_congr (k0_off4_eq i) _ _
@[sl_canon] theorem copyCell1 (i : grid0.Coords) (hh) : (cc0_scratch1.slice (Rect.unit (s := S2x8) (k0_off23 i) S1x1.size hh)).squeeze S_ squeezes_S1x1_S_ = csm (Ring.sl 2 (i 0).val) 1 (by omega) := csm_congr (k0_off23_eq i) _
@[sl_canon] theorem copyDst1 (i : grid0.Coords) (hh hs) : (outM.slice (Rect.unit (s := S16x128x32x512) (k0_off24 i) S1x16x32x512.size hh) hs).squeeze S16x32x512 squeezes_S1x16x32x512_S16x32x512 = piece (i 0) 16 (by omega) := piece_congr (k0_off24_eq i) _ _
@[sl_canon] theorem copySrc1 (i : grid0.Coords) (hh hs) : (scrM.slice (Rect.unit (s := S2x128x32x512) (k0_off25 i) S1x16x32x512.size hh) hs).squeeze S16x32x512 squeezes_S1x16x32x512_S16x32x512 = tile (Ring.sl 2 (i 0).val) 16 (by omega) := tile_congr (k0_off25_eq i) _ _
@[sl_canon] theorem waitCell2 (i : grid0.Coords) (hh) : (cc0_scratch1.slice (Rect.unit (s := S2x8) (k0_off5 i) S1x1.size hh)).squeeze S_ squeezes_S1x1_S_ = csm (Ring.sl 2 (i 0).val) 2 (by omega) := csm_congr (k0_off5_eq i) _
@[sl_canon] theorem waitTile2 (i : grid0.Coords) (hh hs) : (scrM.slice (Rect.unit (s := S2x128x32x512) (k0_off6 i) S1x16x32x512.size hh) hs).squeeze S16x32x512 squeezes_S1x16x32x512_S16x32x512 = tile (Ring.sl 2 (i 0).val) 32 (by omega) := tile_congr (k0_off6_eq i) _ _
@[sl_canon] theorem copyCell2 (i : grid0.Coords) (hh) : (cc0_scratch1.slice (Rect.unit (s := S2x8) (k0_off27 i) S1x1.size hh)).squeeze S_ squeezes_S1x1_S_ = csm (Ring.sl 2 (i 0).val) 2 (by omega) := csm_congr (k0_off27_eq i) _
@[sl_canon] theorem copyDst2 (i : grid0.Coords) (hh hs) : (outM.slice (Rect.unit (s := S16x128x32x512) (k0_off28 i) S1x16x32x512.size hh) hs).squeeze S16x32x512 squeezes_S1x16x32x512_S16x32x512 = piece (i 0) 32 (by omega) := piece_congr (k0_off28_eq i) _ _
@[sl_canon] theorem copySrc2 (i : grid0.Coords) (hh hs) : (scrM.slice (Rect.unit (s := S2x128x32x512) (k0_off29 i) S1x16x32x512.size hh) hs).squeeze S16x32x512 squeezes_S1x16x32x512_S16x32x512 = tile (Ring.sl 2 (i 0).val) 32 (by omega) := tile_congr (k0_off29_eq i) _ _
@[sl_canon] theorem waitCell3 (i : grid0.Coords) (hh) : (cc0_scratch1.slice (Rect.unit (s := S2x8) (k0_off7 i) S1x1.size hh)).squeeze S_ squeezes_S1x1_S_ = csm (Ring.sl 2 (i 0).val) 3 (by omega) := csm_congr (k0_off7_eq i) _
@[sl_canon] theorem waitTile3 (i : grid0.Coords) (hh hs) : (scrM.slice (Rect.unit (s := S2x128x32x512) (k0_off8 i) S1x16x32x512.size hh) hs).squeeze S16x32x512 squeezes_S1x16x32x512_S16x32x512 = tile (Ring.sl 2 (i 0).val) 48 (by omega) := tile_congr (k0_off8_eq i) _ _
@[sl_canon] theorem copyCell3 (i : grid0.Coords) (hh) : (cc0_scratch1.slice (Rect.unit (s := S2x8) (k0_off31 i) S1x1.size hh)).squeeze S_ squeezes_S1x1_S_ = csm (Ring.sl 2 (i 0).val) 3 (by omega) := csm_congr (k0_off31_eq i) _
@[sl_canon] theorem copyDst3 (i : grid0.Coords) (hh hs) : (outM.slice (Rect.unit (s := S16x128x32x512) (k0_off32 i) S1x16x32x512.size hh) hs).squeeze S16x32x512 squeezes_S1x16x32x512_S16x32x512 = piece (i 0) 48 (by omega) := piece_congr (k0_off32_eq i) _ _
@[sl_canon] theorem copySrc3 (i : grid0.Coords) (hh hs) : (scrM.slice (Rect.unit (s := S2x128x32x512) (k0_off33 i) S1x16x32x512.size hh) hs).squeeze S16x32x512 squeezes_S1x16x32x512_S16x32x512 = tile (Ring.sl 2 (i 0).val) 48 (by omega) := tile_congr (k0_off33_eq i) _ _
@[sl_canon] theorem waitCell4 (i : grid0.Coords) (hh) : (cc0_scratch1.slice (Rect.unit (s := S2x8) (k0_off9 i) S1x1.size hh)).squeeze S_ squeezes_S1x1_S_ = csm (Ring.sl 2 (i 0).val) 4 (by omega) := csm_congr (k0_off9_eq i) _
@[sl_canon] theorem waitTile4 (i : grid0.Coords) (hh hs) : (scrM.slice (Rect.unit (s := S2x128x32x512) (k0_off10 i) S1x16x32x512.size hh) hs).squeeze S16x32x512 squeezes_S1x16x32x512_S16x32x512 = tile (Ring.sl 2 (i 0).val) 64 (by omega) := tile_congr (k0_off10_eq i) _ _
@[sl_canon] theorem copyCell4 (i : grid0.Coords) (hh) : (cc0_scratch1.slice (Rect.unit (s := S2x8) (k0_off35 i) S1x1.size hh)).squeeze S_ squeezes_S1x1_S_ = csm (Ring.sl 2 (i 0).val) 4 (by omega) := csm_congr (k0_off35_eq i) _
@[sl_canon] theorem copyDst4 (i : grid0.Coords) (hh hs) : (outM.slice (Rect.unit (s := S16x128x32x512) (k0_off36 i) S1x16x32x512.size hh) hs).squeeze S16x32x512 squeezes_S1x16x32x512_S16x32x512 = piece (i 0) 64 (by omega) := piece_congr (k0_off36_eq i) _ _
@[sl_canon] theorem copySrc4 (i : grid0.Coords) (hh hs) : (scrM.slice (Rect.unit (s := S2x128x32x512) (k0_off37 i) S1x16x32x512.size hh) hs).squeeze S16x32x512 squeezes_S1x16x32x512_S16x32x512 = tile (Ring.sl 2 (i 0).val) 64 (by omega) := tile_congr (k0_off37_eq i) _ _
@[sl_canon] theorem waitCell5 (i : grid0.Coords) (hh) : (cc0_scratch1.slice (Rect.unit (s := S2x8) (k0_off11 i) S1x1.size hh)).squeeze S_ squeezes_S1x1_S_ = csm (Ring.sl 2 (i 0).val) 5 (by omega) := csm_congr (k0_off11_eq i) _
@[sl_canon] theorem waitTile5 (i : grid0.Coords) (hh hs) : (scrM.slice (Rect.unit (s := S2x128x32x512) (k0_off12 i) S1x16x32x512.size hh) hs).squeeze S16x32x512 squeezes_S1x16x32x512_S16x32x512 = tile (Ring.sl 2 (i 0).val) 80 (by omega) := tile_congr (k0_off12_eq i) _ _
@[sl_canon] theorem copyCell5 (i : grid0.Coords) (hh) : (cc0_scratch1.slice (Rect.unit (s := S2x8) (k0_off39 i) S1x1.size hh)).squeeze S_ squeezes_S1x1_S_ = csm (Ring.sl 2 (i 0).val) 5 (by omega) := csm_congr (k0_off39_eq i) _
@[sl_canon] theorem copyDst5 (i : grid0.Coords) (hh hs) : (outM.slice (Rect.unit (s := S16x128x32x512) (k0_off40 i) S1x16x32x512.size hh) hs).squeeze S16x32x512 squeezes_S1x16x32x512_S16x32x512 = piece (i 0) 80 (by omega) := piece_congr (k0_off40_eq i) _ _
@[sl_canon] theorem copySrc5 (i : grid0.Coords) (hh hs) : (scrM.slice (Rect.unit (s := S2x128x32x512) (k0_off41 i) S1x16x32x512.size hh) hs).squeeze S16x32x512 squeezes_S1x16x32x512_S16x32x512 = tile (Ring.sl 2 (i 0).val) 80 (by omega) := tile_congr (k0_off41_eq i) _ _
@[sl_canon] theorem waitCell6 (i : grid0.Coords) (hh) : (cc0_scratch1.slice (Rect.unit (s := S2x8) (k0_off13 i) S1x1.size hh)).squeeze S_ squeezes_S1x1_S_ = csm (Ring.sl 2 (i 0).val) 6 (by omega) := csm_congr (k0_off13_eq i) _
@[sl_canon] theorem waitTile6 (i : grid0.Coords) (hh hs) : (scrM.slice (Rect.unit (s := S2x128x32x512) (k0_off14 i) S1x16x32x512.size hh) hs).squeeze S16x32x512 squeezes_S1x16x32x512_S16x32x512 = tile (Ring.sl 2 (i 0).val) 96 (by omega) := tile_congr (k0_off14_eq i) _ _
@[sl_canon] theorem copyCell6 (i : grid0.Coords) (hh) : (cc0_scratch1.slice (Rect.unit (s := S2x8) (k0_off43 i) S1x1.size hh)).squeeze S_ squeezes_S1x1_S_ = csm (Ring.sl 2 (i 0).val) 6 (by omega) := csm_congr (k0_off43_eq i) _
@[sl_canon] theorem copyDst6 (i : grid0.Coords) (hh hs) : (outM.slice (Rect.unit (s := S16x128x32x512) (k0_off44 i) S1x16x32x512.size hh) hs).squeeze S16x32x512 squeezes_S1x16x32x512_S16x32x512 = piece (i 0) 96 (by omega) := piece_congr (k0_off44_eq i) _ _
@[sl_canon] theorem copySrc6 (i : grid0.Coords) (hh hs) : (scrM.slice (Rect.unit (s := S2x128x32x512) (k0_off45 i) S1x16x32x512.size hh) hs).squeeze S16x32x512 squeezes_S1x16x32x512_S16x32x512 = tile (Ring.sl 2 (i 0).val) 96 (by omega) := tile_congr (k0_off45_eq i) _ _
@[sl_canon] theorem waitCell7 (i : grid0.Coords) (hh) : (cc0_scratch1.slice (Rect.unit (s := S2x8) (k0_off15 i) S1x1.size hh)).squeeze S_ squeezes_S1x1_S_ = csm (Ring.sl 2 (i 0).val) 7 (by omega) := csm_congr (k0_off15_eq i) _
@[sl_canon] theorem waitTile7 (i : grid0.Coords) (hh hs) : (scrM.slice (Rect.unit (s := S2x128x32x512) (k0_off16 i) S1x16x32x512.size hh) hs).squeeze S16x32x512 squeezes_S1x16x32x512_S16x32x512 = tile (Ring.sl 2 (i 0).val) 112 (by omega) := tile_congr (k0_off16_eq i) _ _
@[sl_canon] theorem copyCell7 (i : grid0.Coords) (hh) : (cc0_scratch1.slice (Rect.unit (s := S2x8) (k0_off47 i) S1x1.size hh)).squeeze S_ squeezes_S1x1_S_ = csm (Ring.sl 2 (i 0).val) 7 (by omega) := csm_congr (k0_off47_eq i) _
@[sl_canon] theorem copyDst7 (i : grid0.Coords) (hh hs) : (outM.slice (Rect.unit (s := S16x128x32x512) (k0_off48 i) S1x16x32x512.size hh) hs).squeeze S16x32x512 squeezes_S1x16x32x512_S16x32x512 = piece (i 0) 112 (by omega) := piece_congr (k0_off48_eq i) _ _
@[sl_canon] theorem copySrc7 (i : grid0.Coords) (hh hs) : (scrM.slice (Rect.unit (s := S2x128x32x512) (k0_off49 i) S1x16x32x512.size hh) hs).squeeze S16x32x512 squeezes_S1x16x32x512_S16x32x512 = tile (Ring.sl 2 (i 0).val) 112 (by omega) := tile_congr (k0_off49_eq i) _ _

/-! ## The drain's literal slices -/

@[sl_canon] theorem drainCell00 (hh) : (cc0_scratch1.slice (Rect.unit (s := S2x8) ![0, 0] S1x1.size hh)).squeeze S_ squeezes_S1x1_S_ = csm 0 0 (by omega) := csm_congr (by decide) _
@[sl_canon] theorem drainTile00 (hh hs) : (scrM.slice (Rect.unit (s := S2x128x32x512) ![0, 0, 0, 0] S1x16x32x512.size hh) hs).squeeze S16x32x512 squeezes_S1x16x32x512_S16x32x512 = tile 0 0 (by omega) := tile_congr (by decide) _ _
@[sl_canon] theorem drainCell01 (hh) : (cc0_scratch1.slice (Rect.unit (s := S2x8) ![0, 1] S1x1.size hh)).squeeze S_ squeezes_S1x1_S_ = csm 0 1 (by omega) := csm_congr (by decide) _
@[sl_canon] theorem drainTile01 (hh hs) : (scrM.slice (Rect.unit (s := S2x128x32x512) ![0, 16, 0, 0] S1x16x32x512.size hh) hs).squeeze S16x32x512 squeezes_S1x16x32x512_S16x32x512 = tile 0 16 (by omega) := tile_congr (by decide) _ _
@[sl_canon] theorem drainCell02 (hh) : (cc0_scratch1.slice (Rect.unit (s := S2x8) ![0, 2] S1x1.size hh)).squeeze S_ squeezes_S1x1_S_ = csm 0 2 (by omega) := csm_congr (by decide) _
@[sl_canon] theorem drainTile02 (hh hs) : (scrM.slice (Rect.unit (s := S2x128x32x512) ![0, 32, 0, 0] S1x16x32x512.size hh) hs).squeeze S16x32x512 squeezes_S1x16x32x512_S16x32x512 = tile 0 32 (by omega) := tile_congr (by decide) _ _
@[sl_canon] theorem drainCell03 (hh) : (cc0_scratch1.slice (Rect.unit (s := S2x8) ![0, 3] S1x1.size hh)).squeeze S_ squeezes_S1x1_S_ = csm 0 3 (by omega) := csm_congr (by decide) _
@[sl_canon] theorem drainTile03 (hh hs) : (scrM.slice (Rect.unit (s := S2x128x32x512) ![0, 48, 0, 0] S1x16x32x512.size hh) hs).squeeze S16x32x512 squeezes_S1x16x32x512_S16x32x512 = tile 0 48 (by omega) := tile_congr (by decide) _ _
@[sl_canon] theorem drainCell04 (hh) : (cc0_scratch1.slice (Rect.unit (s := S2x8) ![0, 4] S1x1.size hh)).squeeze S_ squeezes_S1x1_S_ = csm 0 4 (by omega) := csm_congr (by decide) _
@[sl_canon] theorem drainTile04 (hh hs) : (scrM.slice (Rect.unit (s := S2x128x32x512) ![0, 64, 0, 0] S1x16x32x512.size hh) hs).squeeze S16x32x512 squeezes_S1x16x32x512_S16x32x512 = tile 0 64 (by omega) := tile_congr (by decide) _ _
@[sl_canon] theorem drainCell05 (hh) : (cc0_scratch1.slice (Rect.unit (s := S2x8) ![0, 5] S1x1.size hh)).squeeze S_ squeezes_S1x1_S_ = csm 0 5 (by omega) := csm_congr (by decide) _
@[sl_canon] theorem drainTile05 (hh hs) : (scrM.slice (Rect.unit (s := S2x128x32x512) ![0, 80, 0, 0] S1x16x32x512.size hh) hs).squeeze S16x32x512 squeezes_S1x16x32x512_S16x32x512 = tile 0 80 (by omega) := tile_congr (by decide) _ _
@[sl_canon] theorem drainCell06 (hh) : (cc0_scratch1.slice (Rect.unit (s := S2x8) ![0, 6] S1x1.size hh)).squeeze S_ squeezes_S1x1_S_ = csm 0 6 (by omega) := csm_congr (by decide) _
@[sl_canon] theorem drainTile06 (hh hs) : (scrM.slice (Rect.unit (s := S2x128x32x512) ![0, 96, 0, 0] S1x16x32x512.size hh) hs).squeeze S16x32x512 squeezes_S1x16x32x512_S16x32x512 = tile 0 96 (by omega) := tile_congr (by decide) _ _
@[sl_canon] theorem drainCell07 (hh) : (cc0_scratch1.slice (Rect.unit (s := S2x8) ![0, 7] S1x1.size hh)).squeeze S_ squeezes_S1x1_S_ = csm 0 7 (by omega) := csm_congr (by decide) _
@[sl_canon] theorem drainTile07 (hh hs) : (scrM.slice (Rect.unit (s := S2x128x32x512) ![0, 112, 0, 0] S1x16x32x512.size hh) hs).squeeze S16x32x512 squeezes_S1x16x32x512_S16x32x512 = tile 0 112 (by omega) := tile_congr (by decide) _ _
@[sl_canon] theorem drainCell10 (hh) : (cc0_scratch1.slice (Rect.unit (s := S2x8) ![1, 0] S1x1.size hh)).squeeze S_ squeezes_S1x1_S_ = csm 1 0 (by omega) := csm_congr (by decide) _
@[sl_canon] theorem drainTile10 (hh hs) : (scrM.slice (Rect.unit (s := S2x128x32x512) ![1, 0, 0, 0] S1x16x32x512.size hh) hs).squeeze S16x32x512 squeezes_S1x16x32x512_S16x32x512 = tile 1 0 (by omega) := tile_congr (by decide) _ _
@[sl_canon] theorem drainCell11 (hh) : (cc0_scratch1.slice (Rect.unit (s := S2x8) ![1, 1] S1x1.size hh)).squeeze S_ squeezes_S1x1_S_ = csm 1 1 (by omega) := csm_congr (by decide) _
@[sl_canon] theorem drainTile11 (hh hs) : (scrM.slice (Rect.unit (s := S2x128x32x512) ![1, 16, 0, 0] S1x16x32x512.size hh) hs).squeeze S16x32x512 squeezes_S1x16x32x512_S16x32x512 = tile 1 16 (by omega) := tile_congr (by decide) _ _
@[sl_canon] theorem drainCell12 (hh) : (cc0_scratch1.slice (Rect.unit (s := S2x8) ![1, 2] S1x1.size hh)).squeeze S_ squeezes_S1x1_S_ = csm 1 2 (by omega) := csm_congr (by decide) _
@[sl_canon] theorem drainTile12 (hh hs) : (scrM.slice (Rect.unit (s := S2x128x32x512) ![1, 32, 0, 0] S1x16x32x512.size hh) hs).squeeze S16x32x512 squeezes_S1x16x32x512_S16x32x512 = tile 1 32 (by omega) := tile_congr (by decide) _ _
@[sl_canon] theorem drainCell13 (hh) : (cc0_scratch1.slice (Rect.unit (s := S2x8) ![1, 3] S1x1.size hh)).squeeze S_ squeezes_S1x1_S_ = csm 1 3 (by omega) := csm_congr (by decide) _
@[sl_canon] theorem drainTile13 (hh hs) : (scrM.slice (Rect.unit (s := S2x128x32x512) ![1, 48, 0, 0] S1x16x32x512.size hh) hs).squeeze S16x32x512 squeezes_S1x16x32x512_S16x32x512 = tile 1 48 (by omega) := tile_congr (by decide) _ _
@[sl_canon] theorem drainCell14 (hh) : (cc0_scratch1.slice (Rect.unit (s := S2x8) ![1, 4] S1x1.size hh)).squeeze S_ squeezes_S1x1_S_ = csm 1 4 (by omega) := csm_congr (by decide) _
@[sl_canon] theorem drainTile14 (hh hs) : (scrM.slice (Rect.unit (s := S2x128x32x512) ![1, 64, 0, 0] S1x16x32x512.size hh) hs).squeeze S16x32x512 squeezes_S1x16x32x512_S16x32x512 = tile 1 64 (by omega) := tile_congr (by decide) _ _
@[sl_canon] theorem drainCell15 (hh) : (cc0_scratch1.slice (Rect.unit (s := S2x8) ![1, 5] S1x1.size hh)).squeeze S_ squeezes_S1x1_S_ = csm 1 5 (by omega) := csm_congr (by decide) _
@[sl_canon] theorem drainTile15 (hh hs) : (scrM.slice (Rect.unit (s := S2x128x32x512) ![1, 80, 0, 0] S1x16x32x512.size hh) hs).squeeze S16x32x512 squeezes_S1x16x32x512_S16x32x512 = tile 1 80 (by omega) := tile_congr (by decide) _ _
@[sl_canon] theorem drainCell16 (hh) : (cc0_scratch1.slice (Rect.unit (s := S2x8) ![1, 6] S1x1.size hh)).squeeze S_ squeezes_S1x1_S_ = csm 1 6 (by omega) := csm_congr (by decide) _
@[sl_canon] theorem drainTile16 (hh hs) : (scrM.slice (Rect.unit (s := S2x128x32x512) ![1, 96, 0, 0] S1x16x32x512.size hh) hs).squeeze S16x32x512 squeezes_S1x16x32x512_S16x32x512 = tile 1 96 (by omega) := tile_congr (by decide) _ _
@[sl_canon] theorem drainCell17 (hh) : (cc0_scratch1.slice (Rect.unit (s := S2x8) ![1, 7] S1x1.size hh)).squeeze S_ squeezes_S1x1_S_ = csm 1 7 (by omega) := csm_congr (by decide) _
@[sl_canon] theorem drainTile17 (hh hs) : (scrM.slice (Rect.unit (s := S2x128x32x512) ![1, 112, 0, 0] S1x16x32x512.size hh) hs).squeeze S16x32x512 squeezes_S1x16x32x512_S16x32x512 = tile 1 112 (by omega) := tile_congr (by decide) _ _

end Cert.KernelIdeal.Hand

end
-- ==== Proof.Body.lean ====
/-
  The kernel body's runs at a symbolic grid point, one per role of the point in the output ring.

  Point `i` computes the coefficients from the two row tables and the prefetched length, fills the
  eight tiles of slot `i % 2` and starts the eight copies of them to block `i` of the result. From the third point on it
  first waits the slot's earlier copies (`runMid`); the last point also waits all copies still in flight (`runLast`);
  the first two points find their slot free (`runBoot`). What is copied out is `tileVal`, a function of the staged
  windows and the prefetched table.
-/
module

public import proofs.«01_k».proof.Proof.Ring

@[expose] public section

set_option sl_exec.respelt true

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

/-- The algebra: the pipeline library's component and the transfers' counters. -/
abbrev UU (nD : ℕ) (τ : Topo) : Type := UR sig nD τ × Counters
local notation "𝕄" => MT nD τ sig Unit (Elt F) ℕ (UU nD τ) ℕ
abbrev 𝒱₀ : Variants := Variants.none

/-! ## The ring's families -/

section Families

variable (c : Dev nD)

/-- A memref's own elements held at `f`. -/
abbrev heldOwn {sp : Space} {S : Shape} (M : Memref sig .tc sp S .f32) (f : Buf (Elt F) (M.view.loc (c : Thread nD τ))) : sProp 𝕄 :=
  M.view.loc (c : Thread nD τ) ↦[M.view.set]{fullShare} f
/-- A memref held whole at `f`. -/
abbrev heldAll {sp : Space} {S : Shape} {e : EltTy} (M : Memref sig .tc sp S e) (f : Buf (Elt F) (M.view.loc (c : Thread nD τ))) : sProp 𝕄 :=
  M.view.loc (c : Thread nD τ) ↦{fullShare} f

/-- Tile `r` of slot `g` on its way to rows `r…` of block `u`. -/
abbrev flight (g : Fin 2) (k : ℕ) (hk : k < 8) (r : ℕ) (hr : r + 16 ≤ 128) (u : Fin 16)
    (f : Buf (Elt F) ((piece u r hr).view.loc (c : Thread nD τ))) (h : Buf (Elt F) ((tile g r hr).view.loc (c : Thread nD τ))) : sProp 𝕄 :=
  Transfers.Flight (countersEmb (U := UU nD τ)) (c : Thread nD τ) (.dma (csm g k hk).sem) ()
    ((piece u r hr).view.amount (SemLoc.dma (sig := sig) (csm g k hk).sem))
    iprop(heldOwn c (piece u r hr) f ∗ heldOwn c (tile g r hr) h)

/-- What the copies bring: for each block and each group of sixteen rows, the values that land there. -/
abbrev Vals (F : FTy → Type) : Type := Fin 16 → (r : ℕ) → r + 16 ≤ 128 → S16x32x512.Idx → Elt F .f32

/-- The rows not yet written. -/
def rowsAny (u : Fin 16) (r : ℕ) (hr : r + 16 ≤ 128) : sProp 𝕄 := iprop(∃ f, heldOwn (F := F) c (piece u r hr) f)
/-- The rows landed: they read as `val` says. -/
def rowsAt (val : Vals F) (u : Fin 16) (r : ℕ) (hr : r + 16 ≤ 128) : sProp 𝕄 :=
  iprop(∃ f, ⌜(piece u r hr).view.read (Elt F) f = val u r hr⌝ ∗ heldOwn (F := F) c (piece u r hr) f)
/-- The copy in flight: the rows will read as `val` says. -/
def flyAt (val : Vals F) (g : Fin 2) (k : ℕ) (hk : k < 8) (r : ℕ) (hr : r + 16 ≤ 128) (u : Fin 16) : sProp 𝕄 :=
  iprop(∃ f h, ⌜(piece u r hr).view.read (Elt F) f = val u r hr⌝ ∗ flight (F := F) c g k hk r hr u f h)
/-- The cell at zero in hand and the tile at anything. -/
def tileFree (g : Fin 2) (k : ℕ) (hk : k < 8) (r : ℕ) (hr : r + 16 ≤ 128) : sProp 𝕄 :=
  iprop(semVal ((c : Thread nD τ), SemLoc.dma (csm g k hk).sem) 0 ∗ ∃ h, heldOwn (F := F) c (tile g r hr) h)

/-- Block `u` not yet written. -/
def ahead (u : Fin 16) : sProp 𝕄 :=
  iprop(rowsAny (F := F) c u 0 (by omega)
    ∗ rowsAny (F := F) c u 16 (by omega)
    ∗ rowsAny (F := F) c u 32 (by omega)
    ∗ rowsAny (F := F) c u 48 (by omega)
    ∗ rowsAny (F := F) c u 64 (by omega)
    ∗ rowsAny (F := F) c u 80 (by omega)
    ∗ rowsAny (F := F) c u 96 (by omega)
    ∗ rowsAny (F := F) c u 112 (by omega))
/-- Block `u` landed. -/
def behind (val : Vals F) (u : Fin 16) : sProp 𝕄 :=
  iprop(rowsAt c val u 0 (by omega)
    ∗ rowsAt c val u 16 (by omega)
    ∗ rowsAt c val u 32 (by omega)
    ∗ rowsAt c val u 48 (by omega)
    ∗ rowsAt c val u 64 (by omega)
    ∗ rowsAt c val u 80 (by omega)
    ∗ rowsAt c val u 96 (by omega)
    ∗ rowsAt c val u 112 (by omega))
/-- Slot `g` on its way to block `u`. -/
def infl (val : Vals F) (g : Fin 2) (u : Fin 16) : sProp 𝕄 :=
  iprop(flyAt c val g 0 (by omega) 0 (by omega) u
    ∗ flyAt c val g 1 (by omega) 16 (by omega) u
    ∗ flyAt c val g 2 (by omega) 32 (by omega) u
    ∗ flyAt c val g 3 (by omega) 48 (by omega) u
    ∗ flyAt c val g 4 (by omega) 64 (by omega) u
    ∗ flyAt c val g 5 (by omega) 80 (by omega) u
    ∗ flyAt c val g 6 (by omega) 96 (by omega) u
    ∗ flyAt c val g 7 (by omega) 112 (by omega) u)
/-- Slot `g` free. -/
def free (g : Fin 2) : sProp 𝕄 :=
  iprop(tileFree (F := F) c g 0 (by omega) 0 (by omega)
    ∗ tileFree (F := F) c g 1 (by omega) 16 (by omega)
    ∗ tileFree (F := F) c g 2 (by omega) 32 (by omega)
    ∗ tileFree (F := F) c g 3 (by omega) 48 (by omega)
    ∗ tileFree (F := F) c g 4 (by omega) 64 (by omega)
    ∗ tileFree (F := F) c g 5 (by omega) 80 (by omega)
    ∗ tileFree (F := F) c g 6 (by omega) 96 (by omega)
    ∗ tileFree (F := F) c g 7 (by omega) 112 (by omega))

end Families

/-! ## What is copied out -/

/-- A tile written through the scratch's box and read back as the copy's source: the stored values. -/
theorem read_tile_write (g : Fin 2) (r : ℕ) (hr : r + 16 ≤ 128) {off : Fin 4 → ℕ} (e : off = ![g.val, r, 0, 0]) (inb)
    (h : (scrM.access (Rect.unit (s := S2x128x32x512) off S1x16x32x512.size inb)).ty.Contents (Elt F)) (v : S16x32x512.Idx → Elt F .f32) (hsc) :
    (tile g r hr).view.read (Elt F) ((scrM.access (Rect.unit (s := S2x128x32x512) off S1x16x32x512.size inb)).write (Elt F) h
      (shapeCast S1x16x32x512 v hsc) Finset.univ) = v := by
  subst e
  funext x
  refine ((scrM.access (Rect.unit (s := S2x128x32x512) ![g.val, r, 0, 0] S1x16x32x512.size inb)).read_write_of_mem h
    (shapeCast S1x16x32x512 v hsc) (Finset.mem_univ (Shape.reshapeEquiv squeezes_S1x16x32x512_S16x32x512.numel_eq x))).trans ?_
  unfold shapeCast
  rw [Shape.reshapeEquiv_reshapeEquiv, Shape.reshapeEquiv_self]

/-- The rows a copy wrote read as its payload. -/
theorem read_piece_write (u : Fin 16) (r : ℕ) (hr : r + 16 ≤ 128) (f : (piece u r hr).view.ty.Contents (Elt F)) (v : S16x32x512.Idx → Elt F .f32) :
    (piece u r hr).view.read (Elt F) ((piece u r hr).view.writes (Elt F) f [⟨Rect.whole S16x32x512, v⟩]) = v := by
  funext x
  have h := View.read_slice_write_emb (v := (piece u r hr).view) (Rect.whole S16x32x512) f v (Finset.mem_univ x)
  rwa [Rect.emb_whole_apply] at h

theorem row_inb (k j : ℕ) (hk : k < 4) (hj : j < 2) : ∀ a, (![k, j, 0, 0] : Fin 4 → ℕ) a + S1x1x32x1.size a ≤ S4x2x32x1.size a := by
  intro a; fin_cases a
  · show k + 1 ≤ 4; omega
  · show j + 1 ≤ 2; omega
  · show 0 + 32 ≤ 32; omega
  · show 0 + 1 ≤ 1; omega
theorem dist_inb (r : ℕ) (hr : r + 16 ≤ 128) : ∀ a, (![0, r, 0, 0] : Fin 4 → ℕ) a + S1x16x1x512.size a ≤ S1x128x1x512.size a := by
  intro a; fin_cases a
  · show 0 + 1 ≤ 1; omega
  · show r + 16 ≤ 128; omega
  · show 0 + 1 ≤ 1; omega
  · show 0 + 512 ≤ 512; omega
theorem rows_slices (r : ℕ) (hr : r + 16 ≤ 128) : S128x32x1.Slices (![r, 0, 0] : Fin 3 → ℕ) S16x32x1 :=
  ⟨rfl, fun a => by
    fin_cases a
    · show r + 16 ≤ 128; omega
    · show 0 + 32 ≤ 32; omega
    · show 0 + 1 ≤ 1; omega⟩

section Values

variable (w : BitVec 32) (X2 : S1x128x1x512.Idx → Elt F .f32) (X3 : S1x128x1x1.Idx → Elt F .f32) (X4 : S4x2x32x1.Idx → Elt F .f32)

/-- Row `j` of table `k`. -/
def row (k j : ℕ) (hk : k < 4) (hj : j < 2) : S1x1x32x1.Idx → Elt F .f32 :=
  fun y => X4 ((Rect.unit (s := S4x2x32x1) ![k, j, 0, 0] S1x1x32x1.size (row_inb k j hk hj)).emb y)

/-- The coefficient of the spatial distance, per position and feature. -/
def coefS : FVec F S128x32x1 .f32 :=
  k0_pay10 (k0_pay5 (row X4 1 0 (by omega) (by omega)) (row X4 0 0 (by omega) (by omega)))
    (k0_pay6 (row X4 1 1 (by omega) (by omega)) (row X4 0 1 (by omega) (by omega))) (k0_pay9 (k0_pay1 (F := F) w))
/-- The part free of the spatial distance, per position and feature. -/
def coefP : FVec F S128x32x1 .f32 :=
  k0_pay11
    (k0_pay7 (k0_pay1 (F := F) w) (k0_pay2 (row X4 0 0 (by omega) (by omega)) (row X4 2 0 (by omega) (by omega)))
      (k0_pay3 (row X4 0 1 (by omega) (by omega)) (row X4 2 1 (by omega) (by omega))))
    (k0_pay8 (k0_pay1 (F := F) w) (k0_pay4 (row X4 3 0 (by omega) (by omega)) (row X4 2 0 (by omega) (by omega)))
      (row X4 3 1 (by omega) (by omega)) (row X4 2 1 (by omega) (by omega)))
    (fun y => X3 ((Rect.unit (s := S1x128x1x1) ![0, 0, 0, 0] S1x128x1x1.size inb_S1x128x1x1_S1x128x1x1_0_0_0_0).emb y))
/-- The tile of rows `r…r+15`. -/
def tileVal (r : ℕ) (hr : r + 16 ≤ 128) : FVec F S16x32x512 .f32 :=
  addf (broadcastTo S16x32x512 (extractStridedSlice S16x32x1 ![r, 0, 0] (coefP w X3 X4) (rows_slices r hr)) broadcasts_S16x32x1_S16x32x512)
    (mulf (broadcastTo S16x32x512 (extractStridedSlice S16x32x1 ![r, 0, 0] (coefS w X4) (rows_slices r hr)) broadcasts_S16x32x1_S16x32x512)
      (broadcastTo S16x32x512 (shapeCast S16x1x512 (fun y => X2 ((Rect.unit (s := S1x128x1x512) ![0, r, 0, 0] S1x16x1x512.size (dist_inb r hr)).emb y))
        shapeCasts_S1x16x1x512_S16x1x512) broadcasts_S16x1x512_S16x32x512))

end Values

/-- The prefetched word of point `i`. -/
def word (c : Dev nD) (i : grid0.Coords) (ft : Buf (Elt F) ((Memref.whole main_arg3).view.loc (c : Thread nD τ))) : BitVec 32 :=
  View.readAt (Elt F) (Memref.whole main_arg3).view (Rect.unit (s := S16) (k0_off17 i) S1.size (k0_off17_inb i)).toLoadRect ft (Shape.Idx.first (Nat.one_pos.trans_eq numel1_S1.symm))

/-! ## The conditions of the two guards -/

/-- The drain's guard word. -/
abbrev drainWord (i : grid0.Coords) : BitVec 1 :=
  Scalar.cmpi .ne (Scalar.extui (Scalar.cmpi .eq (BitVec.ofNat 32 (i 0).val) 15#32) : BitVec 32) 0#32

theorem wait_of_two_le : ∀ i : grid0.Coords, 2 ≤ (i 0).val → k0_cond1 i = 1#1 := by decide +kernel
theorem no_wait_of_lt_two : ∀ i : grid0.Coords, (i 0).val < 2 → ¬ k0_cond1 i = 1#1 := by decide +kernel
theorem no_drain_of_lt : ∀ i : grid0.Coords, (i 0).val < 15 → ¬ drainWord i = 1#1 := by decide +kernel
theorem drain_of_eq : ∀ i : grid0.Coords, (i 0).val = 15 → drainWord i = 1#1 := by decide +kernel
theorem slot_of_last : ∀ i : grid0.Coords, (i 0).val = 15 → Ring.sl 2 (i 0).val = 1 := by decide +kernel

section Runs

variable (c : Dev nD)

/-- A point from the third to the last but one: it waits the copies its slot carries, refills the slot and copies it out. -/
theorem runMid (i : grid0.Coords) (val : Vals F) (u' : Fin 16) (h2 : 2 ≤ (i 0).val) (h15 : (i 0).val < 15)
    (arg2 : Memref sig .tc .vmem S1x128x1x512 .f32) (harg2 : arg2.IsWhole) (arg3 : Memref sig .tc .vmem S1x128x1x1 .f32) (harg3 : arg3.IsWhole)
    (arg4 : Memref sig .tc .vmem S4x2x32x1 .f32) (harg4 : arg4.IsWhole)
    (ft : Buf (Elt F) ((Memref.whole main_arg3).view.loc (c : Thread nD τ)))
    (f2 : Buf (Elt F) (arg2.view.loc (c : Thread nD τ))) (f3 : Buf (Elt F) (arg3.view.loc (c : Thread nD τ))) (f4 : Buf (Elt F) (arg4.view.loc (c : Thread nD τ)))
    (W : Waits sig Unit)
    (hval : ∀ r hr, val (i 0) r hr = tileVal (word c i ft) (arg2.view.read (Elt F) f2) (arg3.view.read (Elt F) f3) (arg4.view.read (Elt F) f4) r hr) :
    iprop((heldAll c (Memref.whole main_arg3) ft ∗ heldAll c arg2 f2 ∗ heldAll c arg3 f3 ∗ heldAll c arg4 f4 ∗ owes (c : Thread nD τ) 0 W)
      ∗ infl c val (Ring.sl 2 (i 0).val) u' ∗ ahead (F := F) c (i 0))
    ⊢ wp frame (wpE (defs₀ (F := F)) 𝒱₀ (c : Thread nD τ) none) Set.univ
        (cc0__body (F := F) i (Memref.whole main_arg3) (Memref.isWhole_whole _) arg2 harg2 arg3 harg3 arg4 harg4 outM (Memref.isWhole_whole _) scrM (Memref.isWhole_whole _) cc0_scratch1)
        (fun _ => iprop((heldAll c (Memref.whole main_arg3) ft ∗ heldAll c arg2 f2 ∗ heldAll c arg3 f3 ∗ heldAll c arg4 f4 ∗ ∃ W, owes (c : Thread nD τ) 0 W)
          ∗ behind c val u' ∗ infl c val (Ring.sl 2 (i 0).val) (i 0))) := by
  rw [cc0__body_eq_skeleton]
  have hc1 : k0_cond1 i = 1#1 := wait_of_two_le i h2
  have hgs : (Ring.sl 2 (i 0).val).val = (i 0).val % 2 := rfl
  unfold ahead behind infl rowsAny rowsAt flyAt
  iintro ⟨⟨HT, H2, H3, H4, HO⟩, ⟨⟨%fl0, %tl0, %hf0, F0⟩, ⟨%fl1, %tl1, %hf1, F1⟩, ⟨%fl2, %tl2, %hf2, F2⟩, ⟨%fl3, %tl3, %hf3, F3⟩, ⟨%fl4, %tl4, %hf4, F4⟩, ⟨%fl5, %tl5, %hf5, F5⟩, ⟨%fl6, %tl6, %hf6, F6⟩, ⟨%fl7, %tl7, %hf7, F7⟩⟩, ⟨⟨%p0, P0⟩, ⟨%p1, P1⟩, ⟨%p2, P2⟩, ⟨%p3, P3⟩, ⟨%p4, P4⟩, ⟨%p5, P5⟩, ⟨%p6, P6⟩, ⟨%p7, P7⟩⟩⟩
  sl_unfold [cc0__body_skel]
  sl_exec_parts
  have hd : ¬ (runMid.sl.v227 i = 1#1) := no_drain_of_lt i h15
  rw [dif_neg hd]
  sl_step
  sl_step
  isplitl [HT H2 H3 H4 HO]
  · isplitl [HT]; · iexact HT
    isplitl [H2]; · iexact H2
    isplitl [H3]; · iexact H3
    isplitl [H4]; · iexact H4
    iexists _; iexact HO
  isplitl [F0_dst F1_dst F2_dst F3_dst F4_dst F5_dst F6_dst F7_dst]
  · isplitl [F0_dst]
    · iexists _; isplitr; · ipureintro; exact hf0
      iexact F0_dst
    isplitl [F1_dst]
    · iexists _; isplitr; · ipureintro; exact hf1
      iexact F1_dst
    isplitl [F2_dst]
    · iexists _; isplitr; · ipureintro; exact hf2
      iexact F2_dst
    isplitl [F3_dst]
    · iexists _; isplitr; · ipureintro; exact hf3
      iexact F3_dst
    isplitl [F4_dst]
    · iexists _; isplitr; · ipureintro; exact hf4
      iexact F4_dst
    isplitl [F5_dst]
    · iexists _; isplitr; · ipureintro; exact hf5
      iexact F5_dst
    isplitl [F6_dst]
    · iexists _; isplitr; · ipureintro; exact hf6
      iexact F6_dst
    iexists _; isplitr; · ipureintro; exact hf7
    iexact F7_dst
  · isplitl [F0]
    · iexists _, _; isplitr [F0]; swap; (· iexact F0)
      ipureintro
      exact (read_piece_write (i 0) 0 (by omega) _ _).trans ((read_tile_write (Ring.sl 2 (i 0).val) 0 (by omega) (k0_off18_eq i) _ _ _ _).trans (hval 0 (by omega)).symm)
    isplitl [F1]
    · iexists _, _; isplitr [F1]; swap; (· iexact F1)
      ipureintro
      exact (read_piece_write (i 0) 16 (by omega) _ _).trans ((read_tile_write (Ring.sl 2 (i 0).val) 16 (by omega) (k0_off22_eq i) _ _ _ _).trans (hval 16 (by omega)).symm)
    isplitl [F2]
    · iexists _, _; isplitr [F2]; swap; (· iexact F2)
      ipureintro
      exact (read_piece_write (i 0) 32 (by omega) _ _).trans ((read_tile_write (Ring.sl 2 (i 0).val) 32 (by omega) (k0_off26_eq i) _ _ _ _).trans (hval 32 (by omega)).symm)
    isplitl [F3]
    · iexists _, _; isplitr [F3]; swap; (· iexact F3)
      ipureintro
      exact (read_piece_write (i 0) 48 (by omega) _ _).trans ((read_tile_write (Ring.sl 2 (i 0).val) 48 (by omega) (k0_off30_eq i) _ _ _ _).trans (hval 48 (by omega)).symm)
    isplitl [F4]
    · iexists _, _; isplitr [F4]; swap; (· iexact F4)
      ipureintro
      exact (read_piece_write (i 0) 64 (by omega) _ _).trans ((read_tile_write (Ring.sl 2 (i 0).val) 64 (by omega) (k0_off34_eq i) _ _ _ _).trans (hval 64 (by omega)).symm)
    isplitl [F5]
    · iexists _, _; isplitr [F5]; swap; (· iexact F5)
      ipureintro
      exact (read_piece_write (i 0) 80 (by omega) _ _).trans ((read_tile_write (Ring.sl 2 (i 0).val) 80 (by omega) (k0_off38_eq i) _ _ _ _).trans (hval 80 (by omega)).symm)
    isplitl [F6]
    · iexists _, _; isplitr [F6]; swap; (· iexact F6)
      ipureintro
      exact (read_piece_write (i 0) 96 (by omega) _ _).trans ((read_tile_write (Ring.sl 2 (i 0).val) 96 (by omega) (k0_off42_eq i) _ _ _ _).trans (hval 96 (by omega)).symm)
    iexists _, _; isplitr [F7]; swap; (· iexact F7)
    ipureintro
    exact (read_piece_write (i 0) 112 (by omega) _ _).trans ((read_tile_write (Ring.sl 2 (i 0).val) 112 (by omega) (k0_off46_eq i) _ _ _ _).trans (hval 112 (by omega)).symm)

/-- One of the first two points: its slot is free; it fills the slot and copies it out. -/
theorem runBoot (i : grid0.Coords) (val : Vals F) (h2 : (i 0).val < 2)
    (arg2 : Memref sig .tc .vmem S1x128x1x512 .f32) (harg2 : arg2.IsWhole) (arg3 : Memref sig .tc .vmem S1x128x1x1 .f32) (harg3 : arg3.IsWhole)
    (arg4 : Memref sig .tc .vmem S4x2x32x1 .f32) (harg4 : arg4.IsWhole)
    (ft : Buf (Elt F) ((Memref.whole main_arg3).view.loc (c : Thread nD τ)))
    (f2 : Buf (Elt F) (arg2.view.loc (c : Thread nD τ))) (f3 : Buf (Elt F) (arg3.view.loc (c : Thread nD τ))) (f4 : Buf (Elt F) (arg4.view.loc (c : Thread nD τ)))
    (W : Waits sig Unit)
    (hval : ∀ r hr, val (i 0) r hr = tileVal (word c i ft) (arg2.view.read (Elt F) f2) (arg3.view.read (Elt F) f3) (arg4.view.read (Elt F) f4) r hr) :
    iprop((heldAll c (Memref.whole main_arg3) ft ∗ heldAll c arg2 f2 ∗ heldAll c arg3 f3 ∗ heldAll c arg4 f4 ∗ owes (c : Thread nD τ) 0 W)
      ∗ free (F := F) c (Ring.sl 2 (i 0).val) ∗ ahead (F := F) c (i 0))
    ⊢ wp frame (wpE (defs₀ (F := F)) 𝒱₀ (c : Thread nD τ) none) Set.univ
        (cc0__body (F := F) i (Memref.whole main_arg3) (Memref.isWhole_whole _) arg2 harg2 arg3 harg3 arg4 harg4 outM (Memref.isWhole_whole _) scrM (Memref.isWhole_whole _) cc0_scratch1)
        (fun _ => iprop((heldAll c (Memref.whole main_arg3) ft ∗ heldAll c arg2 f2 ∗ heldAll c arg3 f3 ∗ heldAll c arg4 f4 ∗ ∃ W, owes (c : Thread nD τ) 0 W)
          ∗ infl c val (Ring.sl 2 (i 0).val) (i 0))) := by
  rw [cc0__body_eq_skeleton]
  have hc1 : ¬ k0_cond1 i = 1#1 := no_wait_of_lt_two i h2
  have hgs : (Ring.sl 2 (i 0).val).val = (i 0).val % 2 := rfl
  unfold ahead infl free rowsAny tileFree flyAt
  iintro ⟨⟨HT, H2, H3, H4, HO⟩, ⟨⟨F0, %h0, T0⟩, ⟨F1, %h1, T1⟩, ⟨F2, %h2, T2⟩, ⟨F3, %h3, T3⟩, ⟨F4, %h4, T4⟩, ⟨F5, %h5, T5⟩, ⟨F6, %h6, T6⟩, ⟨F7, %h7, T7⟩⟩, ⟨⟨%p0, P0⟩, ⟨%p1, P1⟩, ⟨%p2, P2⟩, ⟨%p3, P3⟩, ⟨%p4, P4⟩, ⟨%p5, P5⟩, ⟨%p6, P6⟩, ⟨%p7, P7⟩⟩⟩
  sl_unfold [cc0__body_skel]
  sl_exec_parts
  have hd : ¬ (runBoot.sl.v227 i = 1#1) := no_drain_of_lt i (by omega)
  rw [dif_neg hd]
  sl_step
  sl_step
  isplitl [HT H2 H3 H4 HO]
  · isplitl [HT]; · iexact HT
    isplitl [H2]; · iexact H2
    isplitl [H3]; · iexact H3
    isplitl [H4]; · iexact H4
    iexists _; iexact HO
  · isplitl [F0]
    · iexists _, _; isplitr [F0]; swap; (· iexact F0)
      ipureintro
      exact (read_piece_write (i 0) 0 (by omega) _ _).trans ((read_tile_write (Ring.sl 2 (i 0).val) 0 (by omega) (k0_off18_eq i) _ _ _ _).trans (hval 0 (by omega)).symm)
    isplitl [F1]
    · iexists _, _; isplitr [F1]; swap; (· iexact F1)
      ipureintro
      exact (read_piece_write (i 0) 16 (by omega) _ _).trans ((read_tile_write (Ring.sl 2 (i 0).val) 16 (by omega) (k0_off22_eq i) _ _ _ _).trans (hval 16 (by omega)).symm)
    isplitl [F2]
    · iexists _, _; isplitr [F2]; swap; (· iexact F2)
      ipureintro
      exact (read_piece_write (i 0) 32 (by omega) _ _).trans ((read_tile_write (Ring.sl 2 (i 0).val) 32 (by omega) (k0_off26_eq i) _ _ _ _).trans (hval 32 (by omega)).symm)
    isplitl [F3]
    · iexists _, _; isplitr [F3]; swap; (· iexact F3)
      ipureintro
      exact (read_piece_write (i 0) 48 (by omega) _ _).trans ((read_tile_write (Ring.sl 2 (i 0).val) 48 (by omega) (k0_off30_eq i) _ _ _ _).trans (hval 48 (by omega)).symm)
    isplitl [F4]
    · iexists _, _; isplitr [F4]; swap; (· iexact F4)
      ipureintro
      exact (read_piece_write (i 0) 64 (by omega) _ _).trans ((read_tile_write (Ring.sl 2 (i 0).val) 64 (by omega) (k0_off34_eq i) _ _ _ _).trans (hval 64 (by omega)).symm)
    isplitl [F5]
    · iexists _, _; isplitr [F5]; swap; (· iexact F5)
      ipureintro
      exact (read_piece_write (i 0) 80 (by omega) _ _).trans ((read_tile_write (Ring.sl 2 (i 0).val) 80 (by omega) (k0_off38_eq i) _ _ _ _).trans (hval 80 (by omega)).symm)
    isplitl [F6]
    · iexists _, _; isplitr [F6]; swap; (· iexact F6)
      ipureintro
      exact (read_piece_write (i 0) 96 (by omega) _ _).trans ((read_tile_write (Ring.sl 2 (i 0).val) 96 (by omega) (k0_off42_eq i) _ _ _ _).trans (hval 96 (by omega)).symm)
    iexists _, _; isplitr [F7]; swap; (· iexact F7)
    ipureintro
    exact (read_piece_write (i 0) 112 (by omega) _ _).trans ((read_tile_write (Ring.sl 2 (i 0).val) 112 (by omega) (k0_off46_eq i) _ _ _ _).trans (hval 112 (by omega)).symm)

/-- The last point: as the points before it, then it waits the copies of both slots. -/
theorem runLast (i : grid0.Coords) (val : Vals F) (u' u'' : Fin 16) (h15 : (i 0).val = 15)
    (arg2 : Memref sig .tc .vmem S1x128x1x512 .f32) (harg2 : arg2.IsWhole) (arg3 : Memref sig .tc .vmem S1x128x1x1 .f32) (harg3 : arg3.IsWhole)
    (arg4 : Memref sig .tc .vmem S4x2x32x1 .f32) (harg4 : arg4.IsWhole)
    (ft : Buf (Elt F) ((Memref.whole main_arg3).view.loc (c : Thread nD τ)))
    (f2 : Buf (Elt F) (arg2.view.loc (c : Thread nD τ))) (f3 : Buf (Elt F) (arg3.view.loc (c : Thread nD τ))) (f4 : Buf (Elt F) (arg4.view.loc (c : Thread nD τ)))
    (W : Waits sig Unit)
    (hval : ∀ r hr, val (i 0) r hr = tileVal (word c i ft) (arg2.view.read (Elt F) f2) (arg3.view.read (Elt F) f3) (arg4.view.read (Elt F) f4) r hr) :
    iprop((heldAll c (Memref.whole main_arg3) ft ∗ heldAll c arg2 f2 ∗ heldAll c arg3 f3 ∗ heldAll c arg4 f4 ∗ owes (c : Thread nD τ) 0 W)
      ∗ infl c val (Ring.sl 2 (i 0).val) u' ∗ infl c val (Ring.sl 2 ((i 0).val + 1)) u'' ∗ ahead (F := F) c (i 0))
    ⊢ wp frame (wpE (defs₀ (F := F)) 𝒱₀ (c : Thread nD τ) none) Set.univ
        (cc0__body (F := F) i (Memref.whole main_arg3) (Memref.isWhole_whole _) arg2 harg2 arg3 harg3 arg4 harg4 outM (Memref.isWhole_whole _) scrM (Memref.isWhole_whole _) cc0_scratch1)
        (fun _ => iprop((heldAll c (Memref.whole main_arg3) ft ∗ heldAll c arg2 f2 ∗ heldAll c arg3 f3 ∗ heldAll c arg4 f4 ∗ ∃ W, owes (c : Thread nD τ) 0 W)
          ∗ (behind c val (i 0) ∗ behind c val u' ∗ behind c val u'') ∗ free (F := F) c (Ring.sl 2 (i 0).val) ∗ free (F := F) c (Ring.sl 2 ((i 0).val + 1)))) := by
  rw [cc0__body_eq_skeleton]
  have hc1 : k0_cond1 i = 1#1 := wait_of_two_le i (by omega)
  have hgs : (Ring.sl 2 (i 0).val).val = (i 0).val % 2 := rfl
  have hg0 : Ring.sl 2 ((i 0).val + 1) = 0 := by rw [h15]; rfl
  rw [hg0]
  unfold ahead behind infl free rowsAny rowsAt tileFree flyAt
  iintro ⟨⟨HT, H2, H3, H4, HO⟩, ⟨⟨%fl0, %tl0, %hf0, F0⟩, ⟨%fl1, %tl1, %hf1, F1⟩, ⟨%fl2, %tl2, %hf2, F2⟩, ⟨%fl3, %tl3, %hf3, F3⟩, ⟨%fl4, %tl4, %hf4, F4⟩, ⟨%fl5, %tl5, %hf5, F5⟩, ⟨%fl6, %tl6, %hf6, F6⟩, ⟨%fl7, %tl7, %hf7, F7⟩⟩, ⟨⟨%gl0, %ul0, %hg0, G0⟩, ⟨%gl1, %ul1, %hg1, G1⟩, ⟨%gl2, %ul2, %hg2, G2⟩, ⟨%gl3, %ul3, %hg3, G3⟩, ⟨%gl4, %ul4, %hg4, G4⟩, ⟨%gl5, %ul5, %hg5, G5⟩, ⟨%gl6, %ul6, %hg6, G6⟩, ⟨%gl7, %ul7, %hg7, G7⟩⟩, ⟨⟨%p0, P0⟩, ⟨%p1, P1⟩, ⟨%p2, P2⟩, ⟨%p3, P3⟩, ⟨%p4, P4⟩, ⟨%p5, P5⟩, ⟨%p6, P6⟩, ⟨%p7, P7⟩⟩⟩
  sl_unfold [cc0__body_skel]
  sl_exec_parts
  have hd : runLast.sl.v227 i = 1#1 := drain_of_eq i h15
  rw [dif_pos hd, slot_of_last i h15]
  sl_exec_parts
  sl_step
  isplitl [HT H2 H3 H4 HO]
  · isplitl [HT]; · iexact HT
    isplitl [H2]; · iexact H2
    isplitl [H3]; · iexact H3
    isplitl [H4]; · iexact H4
    iexists _; iexact HO
  isplitl [P0 F0_dst G0_dst P1 F1_dst G1_dst P2 F2_dst G2_dst P3 F3_dst G3_dst P4 F4_dst G4_dst P5 F5_dst G5_dst P6 F6_dst G6_dst P7 F7_dst G7_dst]
  · isplitl [P0 P1 P2 P3 P4 P5 P6 P7]
    · isplitl [P0]
      · iexists _; isplitr [P0]; swap; (· iexact P0)
        ipureintro
        exact (read_piece_write (i 0) 0 (by omega) _ _).trans ((read_tile_write (Ring.sl 2 (i 0).val) 0 (by omega) (k0_off18_eq i) _ _ _ _).trans (hval 0 (by omega)).symm)
      isplitl [P1]
      · iexists _; isplitr [P1]; swap; (· iexact P1)
        ipureintro
        exact (read_piece_write (i 0) 16 (by omega) _ _).trans ((read_tile_write (Ring.sl 2 (i 0).val) 16 (by omega) (k0_off22_eq i) _ _ _ _).trans (hval 16 (by omega)).symm)
      isplitl [P2]
      · iexists _; isplitr [P2]; swap; (· iexact P2)
        ipureintro
        exact (read_piece_write (i 0) 32 (by omega) _ _).trans ((read_tile_write (Ring.sl 2 (i 0).val) 32 (by omega) (k0_off26_eq i) _ _ _ _).trans (hval 32 (by omega)).symm)
      isplitl [P3]
      · iexists _; isplitr [P3]; swap; (· iexact P3)
        ipureintro
        exact (read_piece_write (i 0) 48 (by omega) _ _).trans ((read_tile_write (Ring.sl 2 (i 0).val) 48 (by omega) (k0_off30_eq i) _ _ _ _).trans (hval 48 (by omega)).symm)
      isplitl [P4]
      · iexists _; isplitr [P4]; swap; (· iexact P4)
        ipureintro
        exact (read_piece_write (i 0) 64 (by omega) _ _).trans ((read_tile_write (Ring.sl 2 (i 0).val) 64 (by omega) (k0_off34_eq i) _ _ _ _).trans (hval 64 (by omega)).symm)
      isplitl [P5]
      · iexists _; isplitr [P5]; swap; (· iexact P5)
        ipureintro
        exact (read_piece_write (i 0) 80 (by omega) _ _).trans ((read_tile_write (Ring.sl 2 (i 0).val) 80 (by omega) (k0_off38_eq i) _ _ _ _).trans (hval 80 (by omega)).symm)
      isplitl [P6]
      · iexists _; isplitr [P6]; swap; (· iexact P6)
        ipureintro
        exact (read_piece_write (i 0) 96 (by omega) _ _).trans ((read_tile_write (Ring.sl 2 (i 0).val) 96 (by omega) (k0_off42_eq i) _ _ _ _).trans (hval 96 (by omega)).symm)
      iexists _; isplitr [P7]; swap; (· iexact P7)
      ipureintro
      exact (read_piece_write (i 0) 112 (by omega) _ _).trans ((read_tile_write (Ring.sl 2 (i 0).val) 112 (by omega) (k0_off46_eq i) _ _ _ _).trans (hval 112 (by omega)).symm)
    isplitl [F0_dst F1_dst F2_dst F3_dst F4_dst F5_dst F6_dst F7_dst]
    · isplitl [F0_dst]
      · iexists _; isplitr; · ipureintro; exact hf0
        iexact F0_dst
      isplitl [F1_dst]
      · iexists _; isplitr; · ipureintro; exact hf1
        iexact F1_dst
      isplitl [F2_dst]
      · iexists _; isplitr; · ipureintro; exact hf2
        iexact F2_dst
      isplitl [F3_dst]
      · iexists _; isplitr; · ipureintro; exact hf3
        iexact F3_dst
      isplitl [F4_dst]
      · iexists _; isplitr; · ipureintro; exact hf4
        iexact F4_dst
      isplitl [F5_dst]
      · iexists _; isplitr; · ipureintro; exact hf5
        iexact F5_dst
      isplitl [F6_dst]
      · iexists _; isplitr; · ipureintro; exact hf6
        iexact F6_dst
      iexists _; isplitr; · ipureintro; exact hf7
      iexact F7_dst
    isplitl [G0_dst]
    · iexists _; isplitr; · ipureintro; exact hg0
      iexact G0_dst
    isplitl [G1_dst]
    · iexists _; isplitr; · ipureintro; exact hg1
      iexact G1_dst
    isplitl [G2_dst]
    · iexists _; isplitr; · ipureintro; exact hg2
      iexact G2_dst
    isplitl [G3_dst]
    · iexists _; isplitr; · ipureintro; exact hg3
      iexact G3_dst
    isplitl [G4_dst]
    · iexists _; isplitr; · ipureintro; exact hg4
      iexact G4_dst
    isplitl [G5_dst]
    · iexists _; isplitr; · ipureintro; exact hg5
      iexact G5_dst
    isplitl [G6_dst]
    · iexists _; isplitr; · ipureintro; exact hg6
      iexact G6_dst
    iexists _; isplitr; · ipureintro; exact hg7
    iexact G7_dst
  isplitl [F0 F0_src F1 F1_src F2 F2_src F3 F3_src F4 F4_src F5 F5_src F6 F6_src F7 F7_src]
  · isplitl [F0 F0_src]
    · isplitl [F0]; · iexact F0
      iexists _; iexact F0_src
    isplitl [F1 F1_src]
    · isplitl [F1]; · iexact F1
      iexists _; iexact F1_src
    isplitl [F2 F2_src]
    · isplitl [F2]; · iexact F2
      iexists _; iexact F2_src
    isplitl [F3 F3_src]
    · isplitl [F3]; · iexact F3
      iexists _; iexact F3_src
    isplitl [F4 F4_src]
    · isplitl [F4]; · iexact F4
      iexists _; iexact F4_src
    isplitl [F5 F5_src]
    · isplitl [F5]; · iexact F5
      iexists _; iexact F5_src
    isplitl [F6 F6_src]
    · isplitl [F6]; · iexact F6
      iexists _; iexact F6_src
    isplitl [F7]; · iexact F7
    iexists _; iexact F7_src
  isplitl [G0 G0_src]
  · isplitl [G0]; · iexact G0
    iexists _; iexact G0_src
  isplitl [G1 G1_src]
  · isplitl [G1]; · iexact G1
    iexists _; iexact G1_src
  isplitl [G2 G2_src]
  · isplitl [G2]; · iexact G2
    iexists _; iexact G2_src
  isplitl [G3 G3_src]
  · isplitl [G3]; · iexact G3
    iexists _; iexact G3_src
  isplitl [G4 G4_src]
  · isplitl [G4]; · iexact G4
    iexists _; iexact G4_src
  isplitl [G5 G5_src]
  · isplitl [G5]; · iexact G5
    iexists _; iexact G5_src
  isplitl [G6 G6_src]
  · isplitl [G6]; · iexact G6
    iexists _; iexact G6_src
  isplitl [G7]; · iexact G7
  iexists _; iexact G7_src

end Runs

end Cert.KernelIdeal.Hand

end
-- ==== Proof.Split.lean ====
/-
  The result and the scratch cut into the ring's pieces and tiles, and the result put together again.

  Block `u` and group `k` of sixteen rows give the piece `piece u (16 * k)` of the result, slot `g` and `k` the tile
  `tile g (16 * k)` of the scratch; the 128 pieces and the 16 tiles are pairwise disjoint and cover their buffers. The
  launch cuts both (`ahead_of_out`, `free_of_parts`); the drained ring gives the result back whole, at the array whose
  reads at the pieces are what landed there (`out_of_behind`).
-/
module

public import proofs.«01_k».proof.Proof.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UU nD τ) ℕ

theorem row_le (k : Fin 8) : 16 * k.val + 16 ≤ 128 := by omega

/-! ## The pieces and the tiles as boxes -/

abbrev pieceBox (uk : Fin 16 × Fin 8) : Finset S16x128x32x512.Idx :=
  (Rect.unit (s := S16x128x32x512) ![uk.1.val, 16 * uk.2.val, 0, 0] S1x16x32x512.size (piece_inb uk.1 _ (row_le uk.2))).set
abbrev tileBox (gk : Fin 2 × Fin 8) : Finset S2x128x32x512.Idx :=
  (Rect.unit (s := S2x128x32x512) ![gk.1.val, 16 * gk.2.val, 0, 0] S1x16x32x512.size (tile_inb gk.1 _ (row_le gk.2))).set

theorem piece_set (u : Fin 16) (r : ℕ) (hr : r + 16 ≤ 128) :
    (piece u r hr).view.set = (Rect.unit (s := S16x128x32x512) ![u.val, r, 0, 0] S1x16x32x512.size (piece_inb u r hr)).set :=
  (View.set_reshape _ _).trans (View.set_slice_whole _ _)
theorem tile_set (g : Fin 2) (r : ℕ) (hr : r + 16 ≤ 128) :
    (tile g r hr).view.set = (Rect.unit (s := S2x128x32x512) ![g.val, r, 0, 0] S1x16x32x512.size (tile_inb g r hr)).set :=
  (View.set_reshape _ _).trans (View.set_slice_whole _ _)

theorem pieceBox_disjoint (i i' : Fin 16 × Fin 8) (h : i ≠ i') : Disjoint (pieceBox i) (pieceBox i') := by
  refine Ring.boxes_disjoint (s := S16x128x32x512) S1x16x32x512.size (fun uk : Fin 16 × Fin 8 => ![uk.1.val, 16 * uk.2.val, 0, 0])
    (fun uk => piece_inb uk.1 _ (row_le uk.2)) (fun uk => ![uk.1.val, uk.2.val, 0, 0]) ?_
    (fun f => (Fin.ofNat 16 (f 0), Fin.ofNat 8 (f 1))) (by decide) i i' h
  intro uk a; fin_cases a
  · show uk.1.val = uk.1.val * 1; omega
  · show 16 * uk.2.val = uk.2.val * 16; omega
  · rfl
  · rfl
theorem tileBox_disjoint (i i' : Fin 2 × Fin 8) (h : i ≠ i') : Disjoint (tileBox i) (tileBox i') := by
  refine Ring.boxes_disjoint (s := S2x128x32x512) S1x16x32x512.size (fun uk : Fin 2 × Fin 8 => ![uk.1.val, 16 * uk.2.val, 0, 0])
    (fun uk => tile_inb uk.1 _ (row_le uk.2)) (fun uk => ![uk.1.val, uk.2.val, 0, 0]) ?_
    (fun f => (Fin.ofNat 2 (f 0), Fin.ofNat 8 (f 1))) (by decide) i i' h
  intro uk a; fin_cases a
  · show uk.1.val = uk.1.val * 1; omega
  · show 16 * uk.2.val = uk.2.val * 16; omega
  · rfl
  · rfl

theorem pieceBox_cover : Finset.univ.biUnion pieceBox = Finset.univ := by
  ext x
  simp only [Finset.mem_biUnion, Finset.mem_univ, true_and, iff_true, Rect.mem_set_unit]
  have h0 : (x 0).val < 16 := (x 0).isLt
  have h1 : (x 1).val < 128 := (x 1).isLt
  have h2 : (x 2).val < 32 := (x 2).isLt
  have h3 : (x 3).val < 512 := (x 3).isLt
  refine ⟨(⟨(x 0).val, h0⟩, ⟨(x 1).val / 16, by omega⟩), fun a => ?_⟩
  fin_cases a
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 32; omega
  · show 0 ≤ (x 3).val ∧ (x 3).val < 0 + 512; omega
theorem tileBox_cover : Finset.univ.biUnion tileBox = Finset.univ := by
  ext x
  simp only [Finset.mem_biUnion, Finset.mem_univ, true_and, iff_true, Rect.mem_set_unit]
  have h0 : (x 0).val < 2 := (x 0).isLt
  have h1 : (x 1).val < 128 := (x 1).isLt
  have h2 : (x 2).val < 32 := (x 2).isLt
  have h3 : (x 3).val < 512 := (x 3).isLt
  refine ⟨(⟨(x 0).val, h0⟩, ⟨(x 1).val / 16, by omega⟩), fun a => ?_⟩
  fin_cases a
  · show (x 0).val ≤ (x 0).val ∧ (x 0).val < (x 0).val + 1; omega
  · show 16 * ((x 1).val / 16) ≤ (x 1).val ∧ (x 1).val < 16 * ((x 1).val / 16) + 16; omega
  · show 0 ≤ (x 2).val ∧ (x 2).val < 0 + 32; omega
  · show 0 ≤ (x 3).val ∧ (x 3).val < 0 + 512; omega

/-! ## Families over the eight groups, listed -/

theorem bigSep_eight {M : Type} [URA M] (Φ : Fin 8 → sProp M) :
    bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

section Families

variable (c : Dev nD)

theorem ahead_eq (u : Fin 16) :
    (ahead (F := F) c u : sProp 𝕄) = bigSep Finset.univ fun k : Fin 8 => rowsAny (F := F) c u (16 * k.val) (row_le k) := by
  rw [bigSep_eight]; rfl
theorem behind_eq (val : Vals F) (u : Fin 16) :
    (behind c val u : sProp 𝕄) = bigSep Finset.univ fun k : Fin 8 => rowsAt c val u (16 * k.val) (row_le k) := by
  rw [bigSep_eight]; rfl
theorem free_eq (g : Fin 2) :
    (free (F := F) c g : sProp 𝕄) = bigSep Finset.univ fun k : Fin 8 => tileFree (F := F) c g k.val k.isLt (16 * k.val) (row_le k) := by
  rw [bigSep_eight]; rfl

/-- The ring's cells, slot by slot. -/
def osem : Fin 2 × Fin 8 → SemLoc sig := fun gk => SemLoc.dma (csm gk.1 gk.2.val gk.2.isLt).sem

theorem piece_own (u : Fin 16) (k : Fin 8) (f : Buf (Elt F) ((c : Thread nD τ).loc main_v8)) :
    (heldOwn c (piece u (16 * k.val) (row_le k)) f : sProp 𝕄) = ((c : Thread nD τ).loc main_v8) ↦[pieceBox (u, k)]{fullShare} f :=
  congrArg (fun S => (((c : Thread nD τ).loc main_v8) ↦[S]{fullShare} f : sProp 𝕄)) (piece_set u (16 * k.val) (row_le k))
/-- The rows of a piece at anything, and a tile at anything, over the boxes. -/
theorem rowsAny_eq (u : Fin 16) (k : Fin 8) :
    (rowsAny (F := F) c u (16 * k.val) (row_le k) : sProp 𝕄)
      = iprop(∃ f : Buf (Elt F) ((c : Thread nD τ).loc main_v8), ((c : Thread nD τ).loc main_v8) ↦[pieceBox (u, k)]{fullShare} f) :=
  congrArg (fun S => (iprop(∃ f : Buf (Elt F) ((c : Thread nD τ).loc main_v8), ((c : Thread nD τ).loc main_v8) ↦[S]{fullShare} f) : sProp 𝕄))
    (piece_set u (16 * k.val) (row_le k))
/-- A tile at anything. -/
abbrev tileAny (g : Fin 2) (k : Fin 8) : sProp 𝕄 := iprop(∃ h, heldOwn (F := F) c (tile g (16 * k.val) (row_le k)) h)
theorem tileAny_eq (g : Fin 2) (k : Fin 8) :
    (tileAny (F := F) c g k : sProp 𝕄)
      = iprop(∃ f : Buf (Elt F) ((c : Thread nD τ).loc cc0_scratch0), ((c : Thread nD τ).loc cc0_scratch0) ↦[tileBox (g, k)]{fullShare} f) :=
  congrArg (fun S => (iprop(∃ f : Buf (Elt F) ((c : Thread nD τ).loc cc0_scratch0), ((c : Thread nD τ).loc cc0_scratch0) ↦[S]{fullShare} f) : sProp 𝕄))
    (tile_set g (16 * k.val) (row_le k))

/-- The result whole at anything is every block not yet written. -/
theorem ahead_of_out :
    iprop(∃ f : Buf (Elt F) ((c : Thread nD τ).loc main_v8), ((c : Thread nD τ).loc main_v8) ↦{fullShare} f) ⊢ (bigSep Finset.univ (ahead (F := F) c) : sProp 𝕄) := by
  refine (Ring.pieces_split (ℓ := (c : Thread nD τ).loc main_v8) pieceBox pieceBox_disjoint pieceBox_cover
    (fun uk f => ((c : Thread nD τ).loc main_v8) ↦[pieceBox uk]{fullShare} f) (fun uk f => rfl)).trans (Entails.of_eq ?_)
  rw [BI.bigSep_univ_prod]
  exact BI.bigSep_congr fun u _ => ((ahead_eq c u).trans (BI.bigSep_congr fun k _ => rowsAny_eq c u k)).symm

theorem tiles_eq :
    (bigSep Finset.univ fun gk : Fin 2 × Fin 8 => tileAny (F := F) c gk.1 gk.2 : sProp 𝕄)
      = bigSep Finset.univ fun gk : Fin 2 × Fin 8 =>
          iprop(∃ f : Buf (Elt F) ((c : Thread nD τ).loc cc0_scratch0), ((c : Thread nD τ).loc cc0_scratch0) ↦[tileBox gk]{fullShare} f) :=
  BI.bigSep_congr fun gk _ => tileAny_eq c gk.1 gk.2

/-- The cells at zero and the tiles at anything are both slots free. -/
theorem free_parts :
    (bigSep Finset.univ (free (F := F) c) : sProp 𝕄)
      = iprop(Pipeline.ownSems0 (Ix := Unit) (Name := ℕ) (U := UU nD τ) (Lvl := ℕ) (Val := Elt F) (τ := τ) osem c
          ∗ bigSep Finset.univ fun gk : Fin 2 × Fin 8 => tileAny (F := F) c gk.1 gk.2) :=
  (BI.bigSep_congr fun g _ => free_eq c g).trans
    (Ring.groups_of_parts (fun (g : Fin 2) (k : Fin 8) => (semVal ((c : Thread nD τ), SemLoc.dma (csm g k.val k.isLt).sem) 0 : sProp 𝕄))
      (fun g k => tileAny (F := F) c g k)).symm
theorem free_of_parts :
    iprop(Pipeline.ownSems0 (Ix := Unit) (Name := ℕ) (U := UU nD τ) (Lvl := ℕ) (Val := Elt F) (τ := τ) osem c
      ∗ (∃ f : Buf (Elt F) ((c : Thread nD τ).loc cc0_scratch0), ((c : Thread nD τ).loc cc0_scratch0) ↦{fullShare} f)) ⊢ (bigSep Finset.univ (free (F := F) c) : sProp 𝕄) := by
  rw [free_parts, tiles_eq]
  exact sep_mono .rfl (Ring.pieces_split (ℓ := (c : Thread nD τ).loc cc0_scratch0) tileBox tileBox_disjoint tileBox_cover
    (fun gk f => ((c : Thread nD τ).loc cc0_scratch0) ↦[tileBox gk]{fullShare} f) (fun gk f => rfl))
theorem parts_of_free :
    (bigSep Finset.univ (free (F := F) c) : sProp 𝕄) ⊢ iprop(Pipeline.ownSems0 (Ix := Unit) (Name := ℕ) (U := UU nD τ) (Lvl := ℕ) (Val := Elt F) (τ := τ) osem c
      ∗ (∃ f : Buf (Elt F) ((c : Thread nD τ).loc cc0_scratch0), ((c : Thread nD τ).loc cc0_scratch0) ↦{fullShare} f)) := by
  rw [free_parts, tiles_eq]
  exact sep_mono .rfl (Ring.pieces_join (ℓ := (c : Thread nD τ).loc cc0_scratch0) tileBox tileBox_disjoint tileBox_cover
    (fun gk f => ((c : Thread nD τ).loc cc0_scratch0) ↦[tileBox gk]{fullShare} f) (fun gk f => rfl) (fun _ => (Elt.nonempty F .f32).some))

/-- The values an array of the result's shape brings to the pieces. -/
def valsOf (G : S16x128x32x512.Idx → Elt F .f32) : Vals F := fun u r hr => (piece u r hr).view.read (Elt F) G

/-- Rows that read as the array says are held at the array. -/
theorem rowsAt_own (G : Buf (Elt F) ((c : Thread nD τ).loc main_v8)) (u : Fin 16) (k : Fin 8) :
    (rowsAt c (valsOf G) u (16 * k.val) (row_le k) : sProp 𝕄) ⊢ ((c : Thread nD τ).loc main_v8) ↦[pieceBox (u, k)]{fullShare} G := by
  unfold rowsAt
  iintro ⟨%f, %hf, H⟩
  have e : (heldOwn c (piece u (16 * k.val) (row_le k)) f : sProp 𝕄) = ((c : Thread nD τ).loc main_v8) ↦[pieceBox (u, k)]{fullShare} G := by
    rw [← piece_own]
    refine pointsTo_congr fun i hi => ?_
    obtain ⟨y, -, rfl⟩ := Finset.mem_map.mp hi
    exact congrFun hf y
  iapply (Entails.of_eq e); iexact H

/-- Every block landed is the result whole at the array. -/
theorem out_of_behind (G : Buf (Elt F) ((c : Thread nD τ).loc main_v8)) :
    (bigSep Finset.univ (behind c (valsOf G)) : sProp 𝕄) ⊢ ((c : Thread nD τ).loc main_v8) ↦{fullShare} G := by
  rw [Ring.pointsTo_blocks pieceBox pieceBox_disjoint pieceBox_cover, BI.bigSep_univ_prod]
  exact BI.bigSep_mono fun u _ => (Entails.of_eq (behind_eq c _ u)).trans (BI.bigSep_mono fun k _ => rowsAt_own c G u k)

end Families

end Cert.KernelIdeal.Hand

end
-- ==== Proof.Steps.lean ====
/-
  One grid point's run as a step of the output ring.

  The ring before point `t` (`Ring.AtBΦ`) is opened into what the point's run takes and a rest that rides through, and
  the ring before point `t + 1` is closed from what the run hands back and that rest; the four positions (first, second,
  middle, last) give one statement, `ring_step`.
-/
module

public import proofs.«01_k».proof.Proof.Split

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtBΦ AtB AtBEnd sl bk aheadSet behindSet AtBΦ_lt AtBΦ_end AtB2_zero' AtB22_next_zero' AtB22_one'
  AtB22_next_one' AtB22_here AtB22_next AtB22_here_last AtB22_drained)

/-! ## The ring opened and closed around a point -/

section Abstract

variable {M : Type _} [URA M] {NB : ℕ} [NeZero NB]
  (free : Fin 2 → sProp M) (infl : Fin 2 → Fin NB → sProp M) (ahead behind : Fin NB → sProp M)
  (k : ℕ) (u : Fin NB) (hu : bk NB k = u)

include hu

theorem open_zero (hk : k = 0) (h : 1 < NB) :
    AtBΦ 2 free infl ahead behind k ⊢ iprop((free (sl 2 k) ∗ ahead u) ∗ bigSep (aheadSet (k + 1)) ahead ∗ free (sl 2 (k + 1))) := by
  rw [← hu, AtBΦ_lt _ _ _ _ _ k (by omega), AtB2_zero' 2 free infl ahead behind k hk]
  iintro ⟨⟨Ha, HA⟩, Hf, Hf'⟩
  isplitl [Ha Hf]
  · isplitl [Hf]; · iexact Hf
    iexact Ha
  isplitl [HA]; · iexact HA
  iexact Hf'
theorem close_zero (hk : k = 0) (h : 1 < NB) :
    iprop(infl (sl 2 k) u ∗ bigSep (aheadSet (k + 1)) ahead ∗ free (sl 2 (k + 1))) ⊢ AtBΦ 2 free infl ahead behind (k + 1) := by
  rw [← hu, AtBΦ_lt _ _ _ _ _ (k + 1) (by omega), AtB22_next_zero' free infl ahead behind k hk]
  iintro ⟨Hn, HA, Hf'⟩
  isplitl [HA]; · iexact HA
  isplitl [Hf']; · iexact Hf'
  iexact Hn

theorem open_one (hk : k = 1) (h : 2 < NB) :
    AtBΦ 2 free infl ahead behind k
      ⊢ iprop((free (sl 2 k) ∗ ahead u) ∗ bigSep (aheadSet (k + 1)) ahead ∗ infl (sl 2 (k + 1)) (bk NB (k - 1))) := by
  rw [← hu, AtBΦ_lt _ _ _ _ _ k (by omega), AtB22_one' free infl ahead behind k hk (by omega)]
  iintro ⟨⟨Ha, HA⟩, Hf, Hc⟩
  isplitl [Ha Hf]
  · isplitl [Hf]; · iexact Hf
    iexact Ha
  isplitl [HA]; · iexact HA
  iexact Hc
theorem close_one (hk : k = 1) (h : 2 < NB) :
    iprop(infl (sl 2 k) u ∗ bigSep (aheadSet (k + 1)) ahead ∗ infl (sl 2 (k + 1)) (bk NB (k - 1)))
      ⊢ AtBΦ 2 free infl ahead behind (k + 1) := by
  rw [← hu, AtBΦ_lt _ _ _ _ _ (k + 1) (by omega), AtB22_next_one' free infl ahead behind k hk]
  iintro ⟨Hn, HA, Hc⟩
  isplitl [HA]; · iexact HA
  isplitl [Hc]; · iexact Hc
  iexact Hn

theorem open_mid (h2 : 2 ≤ k) (h : k + 1 < NB) :
    AtBΦ 2 free infl ahead behind k
      ⊢ iprop((infl (sl 2 k) (bk NB (k - 2)) ∗ ahead u)
          ∗ bigSep (aheadSet (k + 1)) ahead ∗ bigSep (behindSet 2 k) behind ∗ infl (sl 2 (k + 1)) (bk NB (k - 1))) := by
  rw [← hu, AtBΦ_lt _ _ _ _ _ k (by omega), AtB22_here free infl ahead behind k h2 (by omega)]
  iintro ⟨⟨Ha, HA⟩, HB, Hw, Hc⟩
  isplitl [Ha Hw]
  · isplitl [Hw]; · iexact Hw
    iexact Ha
  isplitl [HA]; · iexact HA
  isplitl [HB]; · iexact HB
  iexact Hc
theorem close_mid (h2 : 2 ≤ k) (h : k + 1 < NB) :
    iprop((behind (bk NB (k - 2)) ∗ infl (sl 2 k) u)
        ∗ bigSep (aheadSet (k + 1)) ahead ∗ bigSep (behindSet 2 k) behind ∗ infl (sl 2 (k + 1)) (bk NB (k - 1)))
      ⊢ AtBΦ 2 free infl ahead behind (k + 1) := by
  rw [← hu, AtBΦ_lt _ _ _ _ _ (k + 1) (by omega), AtB22_next free infl ahead behind k h2 (by omega)]
  iintro ⟨⟨Hl, Hn⟩, HA, HB, Hc⟩
  isplitl [HA]; · iexact HA
  isplitl [Hl HB]
  · isplitl [Hl]; · iexact Hl
    iexact HB
  isplitl [Hc]; · iexact Hc
  iexact Hn

theorem open_last (h2 : 2 ≤ k) (h : k + 1 = NB) :
    AtBΦ 2 free infl ahead behind k
      ⊢ iprop((infl (sl 2 k) (bk NB (k - 2)) ∗ infl (sl 2 (k + 1)) (bk NB (k - 1)) ∗ ahead u) ∗ bigSep (behindSet 2 k) behind) := by
  rw [← hu, AtBΦ_lt _ _ _ _ _ k (by omega), AtB22_here_last free infl ahead behind k h2 h]
  iintro ⟨Ha, HB, Hw, Hc⟩
  isplitr [HB]
  · isplitl [Hw]; · iexact Hw
    isplitl [Hc]; · iexact Hc
    iexact Ha
  iexact HB
theorem close_last (h2 : 2 ≤ k) (h : k + 1 = NB) :
    iprop(((behind u ∗ behind (bk NB (k - 2)) ∗ behind (bk NB (k - 1))) ∗ free (sl 2 k) ∗ free (sl 2 (k + 1))) ∗ bigSep (behindSet 2 k) behind)
      ⊢ AtBΦ 2 free infl ahead behind (k + 1) := by
  rw [← hu, AtBΦ_end _ _ _ _ _ (k + 1) h, AtB22_drained free behind k h2 h]
  iintro ⟨⟨⟨H0, H2, H1⟩, Hf, Hf'⟩, HB⟩
  isplitr [Hf Hf']
  · isplitl [H0]; · iexact H0
    isplitl [H2]; · iexact H2
    isplitl [H1]; · iexact H1
    iexact HB
  isplitl [Hf]; · iexact Hf
  iexact Hf'

end Abstract

variable {F : FTy → Type} [FloatOps F] [Named F]

local notation "𝕄" => MT nD τ sig Unit (Elt F) ℕ (UU nD τ) ℕ

section Runs

variable (c : Dev nD)

/-- A run that takes and gives `P`, `Q` beside the ring's parts `A`, `B`, with a rest `R` riding through. -/
theorem frame_run {α : Type} {p : Prog (TpuEff nD τ sig (Elt F) Λ₀ .tc) α} {P Q A B R A' B' : sProp 𝕄}
    (e : A' ⊢ iprop(A ∗ R)) (e' : iprop(B ∗ R) ⊢ B')
    (h : iprop(P ∗ A) ⊢ wp frame (wpE (defs₀ (F := F)) 𝒱₀ (c : Thread nD τ) none) Set.univ p (fun _ => iprop(Q ∗ B))) :
    iprop(P ∗ A') ⊢ wp frame (wpE (defs₀ (F := F)) 𝒱₀ (c : Thread nD τ) none) Set.univ p (fun _ => iprop(Q ∗ B')) := by
  refine BIBase.Entails.trans ?_ (((sep_mono h .rfl).trans (wp_frame_r (R := R) _ _ _)).trans (wp_mono _ _ _ fun _ => ?_))
  · iintro ⟨HP, HA⟩
    ihave H := e $$ HA
    icases H with ⟨HA, HR⟩
    isplitr [HR]
    · isplitl [HP]; · iexact HP
      iexact HA
    iexact HR
  · iintro ⟨⟨HQ, HB⟩, HR⟩
    isplitl [HQ]; · iexact HQ
    iapply e'
    isplitl [HB]; · iexact HB
    iexact HR

/-- Any point's run: the ring advances by one. -/
theorem ring_step (i : grid0.Coords) (val : Vals F)
    (arg2 : Memref sig .tc .vmem S1x128x1x512 .f32) (harg2 : arg2.IsWhole) (arg3 : Memref sig .tc .vmem S1x128x1x1 .f32) (harg3 : arg3.IsWhole)
    (arg4 : Memref sig .tc .vmem S4x2x32x1 .f32) (harg4 : arg4.IsWhole)
    (ft : Buf (Elt F) ((Memref.whole main_arg3).view.loc (c : Thread nD τ)))
    (f2 : Buf (Elt F) (arg2.view.loc (c : Thread nD τ))) (f3 : Buf (Elt F) (arg3.view.loc (c : Thread nD τ))) (f4 : Buf (Elt F) (arg4.view.loc (c : Thread nD τ)))
    (W : Waits sig Unit)
    (hval : ∀ r hr, val (i 0) r hr = tileVal (word c i ft) (arg2.view.read (Elt F) f2) (arg3.view.read (Elt F) f3) (arg4.view.read (Elt F) f4) r hr) :
    iprop((heldAll c (Memref.whole main_arg3) ft ∗ heldAll c arg2 f2 ∗ heldAll c arg3 f3 ∗ heldAll c arg4 f4 ∗ owes (c : Thread nD τ) 0 W)
      ∗ AtBΦ 2 (free (F := F) c) (infl c val) (ahead (F := F) c) (behind c val) (i 0).val)
    ⊢ wp frame (wpE (defs₀ (F := F)) 𝒱₀ (c : Thread nD τ) none) Set.univ
        (cc0__body (F := F) i (Memref.whole main_arg3) (Memref.isWhole_whole _) arg2 harg2 arg3 harg3 arg4 harg4 outM (Memref.isWhole_whole _) scrM (Memref.isWhole_whole _) cc0_scratch1)
        (fun _ => iprop((heldAll c (Memref.whole main_arg3) ft ∗ heldAll c arg2 f2 ∗ heldAll c arg3 f3 ∗ heldAll c arg4 f4 ∗ ∃ W, owes (c : Thread nD τ) 0 W)
          ∗ AtBΦ 2 (free (F := F) c) (infl c val) (ahead (F := F) c) (behind c val) ((i 0).val + 1))) := by
  have hlt : (i 0).val < 16 := (i 0).isLt
  have hu : bk 16 (i 0).val = (i 0) := Fin.ext (Nat.mod_eq_of_lt hlt)
  rcases Nat.lt_or_ge (i 0).val 2 with h2 | h2
  · rcases (show (i 0).val = 0 ∨ (i 0).val = 1 by omega) with h | h
    · exact frame_run c (open_zero _ _ _ _ _ _ hu h (by omega)) (close_zero _ _ _ _ _ _ hu h (by omega))
        (runBoot c i val h2 arg2 harg2 arg3 harg3 arg4 harg4 ft f2 f3 f4 W hval)
    · exact frame_run c (open_one _ _ _ _ _ _ hu h (by omega)) (close_one _ _ _ _ _ _ hu h (by omega))
        (runBoot c i val h2 arg2 harg2 arg3 harg3 arg4 harg4 ft f2 f3 f4 W hval)
  · rcases Nat.lt_or_ge (i 0).val 15 with h15 | h15
    · exact frame_run c (open_mid _ _ _ _ _ _ hu h2 (by omega)) (close_mid _ _ _ _ _ _ hu h2 (by omega))
        (runMid c i val _ h2 h15 arg2 harg2 arg3 harg3 arg4 harg4 ft f2 f3 f4 W hval)
    · exact frame_run c (open_last _ _ _ _ _ _ hu h2 (by omega)) (close_last _ _ _ _ _ _ hu h2 (by omega))
        (runLast c i val _ _ (by omega) arg2 harg2 arg3 harg3 arg4 harg4 ft f2 f3 f4 W hval)

end Runs

end Cert.KernelIdeal.Hand

end
-- ==== Proof.Data.lean ====
/-
  The pipeline's proof data and the body obligation.

  The host operations before the region only broadcast and join the arguments; the region's three windows read their
  results, and the prefetched table is an argument. Before point `t` the invariant is the output ring before step `t`,
  every copy bringing the tile values the point's windows and word determine (`val`), beside the table; `ring_step` is
  the obligation at every point.
-/
module

public import proofs.«01_k».proof.Proof.Steps
public import proofs.«01_k».proof.Proof.Gen.KernelIdeal.Launch
public import Idealize.ShloMosaic.Lib.Pipeline.Regions
public import Idealize.ShloMosaic.Lib.Pipeline.FrameBody

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtBΦ)
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (c : Dev nD)

/-- The core's buffers at launch, as the operations' valuation; -/
abbrev V₀ : Valuation τ sig (Elt F) := fun b => m ((c : Dev nD), b)
/-- and when the region is entered. -/
abbrev V (b : Ref sig .tc) : Buf (Elt F) ((c : Thread nD τ).loc b) := StableHlo.after hostOps0 (V₀ m c) b

/-- The host operations write their own results only. -/
theorem not_written (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    ∀ op ∈ (hostOps0 (F := F)), Proc.devRef .tc b ∉ op.writes := by
  obtain ⟨h0, h1, h2, h3, h4, h5, h6, h7⟩ := hb
  intro op hop
  simp only [List.mem_cons, List.mem_nil_iff, or_false] at hop
  rcases hop with rfl | rfl | rfl | rfl | rfl | rfl | rfl | rfl <;>
    simp only [StableHlo.unary_writes, StableHlo.nary_writes, Finset.mem_singleton] <;>
    exact StableHlo.devRef_ne_of_ne ‹_›

theorem V_eq (b : Ref sig .tc) (hb : b ≠ main_v0 ∧ b ≠ main_v1 ∧ b ≠ main_v2 ∧ b ≠ main_v3 ∧ b ≠ main_v4 ∧ b ≠ main_v5 ∧ b ≠ main_v6 ∧ b ≠ main_v7) :
    V m c b = m ((c : Thread nD τ).loc b) :=
  StableHlo.after_of_forall_not_mem (b := Proc.devRef .tc b) hostOps0 (V₀ m c) (not_written b hb)

/-- The prefetched table at its launch contents, on the one device. -/
def adm : (p : Fin 1) → (pcfgs (F := F) p).Adm := fun _ => ⟨fun k => m (((0 : Dev nD) : Thread nD τ).loc (pre0.ref k)), trivial⟩

/-- What window `w` shows at point `t`. -/
abbrev blkRead (w : Fin 3) (t : Fin grid0.N) : ((cfg0 (adm m 0)).win w).block.Idx → Elt F ((cfg0 (adm m 0)).win w).elt :=
  (((cfg0 (adm m 0)).win w).blk t).view.read (Elt F) (V m c (Pipeline.arrRef spec0 w))

/-- Block `u`'s grid point. -/
def pt (u : Fin 16) : Fin grid0.N := ⟨u.val, by rw [N_0]; exact u.isLt⟩
theorem coords_val : ∀ t : Fin grid0.N, (grid0.coords t 0).val = t.val := by decide +kernel
theorem pt_coords (t : Fin grid0.N) : pt (grid0.coords t 0) = t := Fin.ext (coords_val t)

/-- The values that land in the rows of block `u` from row `r` on. -/
def val : Vals F := fun u r hr =>
  tileVal (word c (grid0.coords (pt u)) (m ((c : Thread nD τ).loc main_arg3)))
    (blkRead m c 0 (pt u)) (blkRead m c 1 (pt u)) (blkRead m c 2 (pt u)) r hr

/-- The invariant before point `k`. -/
def Φc (k : ℕ) : sProp 𝕄 :=
  iprop(AtBΦ 2 (free (F := F) c) (infl c (val m c)) (ahead (F := F) c) (behind c (val m c)) k
    ∗ heldAll c (Memref.whole main_arg3) (m ((c : Thread nD τ).loc main_arg3)))

/-- The proof data: the arrays at the region's entry, each staged block left as fetched, the ring, nothing owed. -/
def dats (p : Fin 1) (c : Dev nD) : Dat τ (Elt F) Unit ℕ (UU nD τ) ℕ (Pipeline.pin (pcfgs (F := F)) (adm m) p) c where
  A w := V m c (Pipeline.arrRef spec0 w)
  after w t := match w with | 0 => blkRead m c 0 t | 1 => blkRead m c 1 t | 2 => blkRead m c 2 t | ⟨_ + 3, h⟩ => absurd h (Nat.not_lt.2 (Nat.le_add_left _ _))
  Φ t := Φc m c t.val
  q _ := fullShare
  owed _ := 0

theorem A_eq (w : Fin 3) : (dats m 0 c).A w = V m c (Pipeline.arrRef spec0 w) := by dsimp only [dats]

theorem before0 (t : Fin grid0.N) (d) : (dats m 0 c).before (0 : Fin 3) t d = blkRead m c 0 t :=
  ((dats m 0 c).before_in_eq_fetched (0 : Fin 3) rfl (fun _ => rfl) (fun _ _ _ => rfl) (fun _ => rfl) t d).trans rfl
theorem before1 (t : Fin grid0.N) (d) : (dats m 0 c).before (1 : Fin 3) t d = blkRead m c 1 t :=
  ((dats m 0 c).before_in_eq_fetched (1 : Fin 3) rfl (fun _ => rfl) (fun _ _ _ => rfl) (fun _ => rfl) t d).trans rfl
theorem before2 (t : Fin grid0.N) (d) : (dats m 0 c).before (2 : Fin 3) t d = blkRead m c 2 t :=
  ((dats m 0 c).before_in_eq_fetched (2 : Fin 3) rfl (fun _ => rfl) (fun _ _ _ => rfl) (fun _ => rfl) t d).trans rfl

/-- A whole memref owned at `X`: its buffer whole, reading as `X`. -/
theorem owns_of_whole {sp : Space} {S : Shape} {e : EltTy} (M : Memref sig .tc sp S e) (hM : M.IsWhole) (X : S.Idx → Elt F e) :
    (owns (c : Thread nD τ) M fullShare X : sProp 𝕄) = iprop(∃ f, ⌜M.view.read (Elt F) f = X⌝ ∗ heldAll c M f) := by
  unfold owns; rw [hM.set_eq_univ]

/-- Any point's run at the proof data's values, the staged blocks handed back as they were. -/
theorem point_run (t : Fin grid0.N)
    (arg2 : Memref sig .tc .vmem S1x128x1x512 .f32) (harg2 : arg2.IsWhole) (arg3 : Memref sig .tc .vmem S1x128x1x1 .f32) (harg3 : arg3.IsWhole)
    (arg4 : Memref sig .tc .vmem S4x2x32x1 .f32) (harg4 : arg4.IsWhole)
    (X2 : S1x128x1x512.Idx → Elt F .f32) (X3 : S1x128x1x1.Idx → Elt F .f32) (X4 : S4x2x32x1.Idx → Elt F .f32)
    (h2 : X2 = blkRead m c 0 t) (h3 : X3 = blkRead m c 1 t) (h4 : X4 = blkRead m c 2 t) :
    iprop(Φc m c t.val ∗ (∃ W, owes (c : Thread nD τ) (0 : CellTallies nD τ sig Unit) W)
        ∗ owns (c : Thread nD τ) arg2 fullShare X2 ∗ owns (c : Thread nD τ) arg3 fullShare X3 ∗ owns (c : Thread nD τ) arg4 fullShare X4)
    ⊢ wp frame (wpE (defs₀ (F := F)) 𝒱₀ (c : Thread nD τ) none) Set.univ
        (cc0__body (F := F) (grid0.coords t) (Memref.whole main_arg3) (Memref.isWhole_whole _) arg2 harg2 arg3 harg3 arg4 harg4 outM (Memref.isWhole_whole _) scrM (Memref.isWhole_whole _) cc0_scratch1)
        (fun _ => iprop(Φc m c (t.val + 1) ∗ (∃ W, owes (c : Thread nD τ) (0 : CellTallies nD τ sig Unit) W)
          ∗ owns (c : Thread nD τ) arg2 fullShare X2 ∗ owns (c : Thread nD τ) arg3 fullShare X3 ∗ owns (c : Thread nD τ) arg4 fullShare X4)) := by
  rw [owns_of_whole c arg2 harg2, owns_of_whole c arg3 harg3, owns_of_whole c arg4 harg4]
  unfold Φc
  iintro ⟨⟨HR, HT⟩, ⟨%W, HO⟩, ⟨%f2, %hf2, H2⟩, ⟨%f3, %hf3, H3⟩, ⟨%f4, %hf4, H4⟩⟩
  have hrun := ring_step c (grid0.coords t) (val m c) arg2 harg2 arg3 harg3 arg4 harg4 (m ((c : Thread nD τ).loc main_arg3)) f2 f3 f4 W
    (fun r hr => by unfold val; rw [pt_coords, hf2, hf3, hf4, h2, h3, h4])
  rw [coords_val] at hrun
  ihave Hwp := hrun $$ [HR HT HO H2 H3 H4]
  · isplitr [HR]
    · isplitl [HT]; · iexact HT
      isplitl [H2]; · iexact H2
      isplitl [H3]; · iexact H3
      isplitl [H4]; · iexact H4
      iexact HO
    iexact HR
  iapply (wp_wand frame (wpE (defs₀ (F := F)) 𝒱₀ (c : Thread nD τ) none) Set.univ) $$ Hwp
  iintro %_ ⟨⟨HT, H2, H3, H4, HO⟩, HR⟩
  isplitl [HR HT]
  · isplitl [HR]; · iexact HR
    iexact HT
  isplitl [HO]; · iexact HO
  isplitl [H2]
  · iexists f2; isplitr; · ipureintro; exact hf2
    iexact H2
  isplitl [H3]
  · iexists f3; isplitr; · ipureintro; exact hf3
    iexact H3
  iexists f4; isplitr; · ipureintro; exact hf4
  iexact H4

set_option maxHeartbeats 1000000 in
/-- The library's body obligation, at every point: `ring_step`. -/
theorem body_obligation : BodyObligation (dats m 0 c) (defs₀ (F := F)) 𝒱₀ () Set.univ := fun t => by
  have hW : (Finset.univ : Finset (Fin (Pipeline.pin (pcfgs (F := F)) (adm m) 0).W)) = (Finset.univ : Finset (Fin 3)) := rfl
  rw [hW, bigSep_W0, bigSep_W0]
  rw [show (dats m 0 c).Φ t.castSucc = Φc m c (t : Fin grid0.N).val from rfl, show (dats m 0 c).Φ t.succ = Φc m c ((t : Fin grid0.N).val + 1) from rfl]
  unfold Dat.owesAt Pipeline.owesWithin
  rw [show (dats m 0 c).owed t.castSucc = 0 from rfl, show (dats m 0 c).owed t.succ = 0 from rfl]
  iintro ⟨HR, ⟨%W, %hW, HO⟩, ⟨%d0, H0⟩, ⟨%d1, H1⟩, ⟨%d2, H2⟩⟩
  let S : ∀ w : Fin 3, Fin (spec0 w).nbuf := (Pipeline.pin (pcfgs (F := F)) (adm m) 0).slots t
  have hrun := point_run m c t (spec0_0.stage (S 0)) (hstage0_0 ((S 0).cast nbuf0_0)) (spec0_1.stage (S 1)) (hstage0_1 ((S 1).cast nbuf0_1))
    (spec0_2.stage (S 2)) (hstage0_2 ((S 2).cast nbuf0_2)) _ _ _ (before0 m c t d0) (before1 m c t d1) (before2 m c t d2)
  ihave Hwp := hrun $$ [HR HO H0 H1 H2]
  · isplitl [HR]; · iexact HR
    isplitl [HO]; · iexists _; iexact HO
    isplitl [H0]; · iexact H0
    isplitl [H1]; · iexact H1
    iexact H2
  iapply (wp_wand frame (wpE (defs₀ (F := F)) 𝒱₀ (c : Thread nD τ) none) Set.univ) $$ Hwp
  iintro %_ ⟨HR, ⟨%W', HO⟩, H0, H1, H2⟩
  isplitl [HR]; · iexact HR
  isplitl [HO]
  · iexists W'; isplitr; · ipureintro; exact fun _ _ => Or.inl trivial
    iexact HO
  rw [before0, before1, before2]
  isplitl [H0]; · iexact H0
  isplitl [H1]; · iexact H1
  iexact H2

end Cert.KernelIdeal.Hand

end
-- ==== Proof.Launch.lean ====
/-
  The launch: @main as its host operations, the region and the final transposition.
-/
module

public import proofs.«01_k».proof.Proof.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Ring (AtBΦ)
open Idealize.ShloMosaic.Pipeline (Dat Cfg Window BodyObligation cellOf)

variable {F : FTy → Type} [FloatOps F] [Named F]

local notation "𝕄" => MT nD τ sig Unit (Elt F) ℕ (UU nD τ) ℕ

variable (m : (ℓ : Loc nD τ sig) → Buf (Elt F) ℓ) (ρ : Dev nD → PrngReg)

/-- The pipeline library's algebra is the left component. -/
abbrev EP : Emb (UR sig nD τ) (MT nD τ sig Unit (Elt F) ℕ (UU nD τ) ℕ) := embL

/-- The TensorCore's unscoped references, as device buffers. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The kernel's own semaphores: scoped, distinct, none a staging semaphore. -/
theorem ownSemFacts : Pipeline.OwnSemFacts spec0 osem := by decide

/-- The launch element: the pipeline library's cells and transfers; no counter yet. -/
def u₀ : UU nD τ :=
  (initOf (Pipeline.cells (Pipeline.pin (pcfgs (F := F)) (adm m)) (cellOf_inj (adm m))) (Pipeline.launchToks (Pipeline.pin (pcfgs (F := F)) (adm m)) (cellOf_inj (adm m))), 1)

/-- No core owes another anything. -/
abbrev L : GSem nD τ sig → Finset Unit := fun _ => ∅
abbrev lv : GSem nD τ sig → Unit → ℕ := fun _ _ => 0
abbrev owing (c : Dev nD) : sProp 𝕄 := iprop(∃ W, owes (c : Thread nD τ) (0 : CellTallies nD τ sig Unit) W)

/-- The arguments at their launch contents. -/
def argsHeld (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6))
    ∗ (((c : Thread nD τ).loc main_arg7) ↦{fullShare} m ((c : Thread nD τ).loc main_arg7)))

/-- The first host segment. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) owing

section Out

variable (G : Dev nD → S16x128x32x512.Idx → Elt F .f32)

/-- The result buffers' valuation after the region: the copied-out array in place. -/
def W₁ (c : Dev nD) : Valuation τ sig (Elt F) :=
  Function.update (StableHlo.after hostOps0 (V₀ m c)) (Proc.devRef .tc main_v8) (G c)
/-- The buffers the last operation touches. -/
def outRefs : Finset (DevRef τ sig) := {Proc.devRef .tc main_v8, Proc.devRef .tc main_v9}

theorem held_outRefs (c : Dev nD) (W : Valuation τ sig (Elt F)) :
    (StableHlo.held (c : Thread nD τ) outRefs W : sProp 𝕄)
      = iprop((((c : Thread nD τ).loc main_v8) ↦{fullShare} W (Proc.devRef .tc main_v8)) ∗ (((c : Thread nD τ).loc main_v9) ↦{fullShare} W (Proc.devRef .tc main_v9))) := by
  unfold StableHlo.held outRefs
  rw [Finset.insert_eq, bigSep_union (by decide), bigSep_singleton, bigSep_singleton]
  rfl

/-- The last host segment. -/
def seg1 : Pipeline.HostSeg (Name := ℕ) (U := UU nD τ) (pcfgs (F := F)) defs₀ 𝒱₀ L lv :=
  Pipeline.HostSeg.ofOps _ _ _ _ _ outRefs hostOps1 (by intro op h; obtain rfl := List.mem_singleton.mp h; rw [StableHlo.unary_bufs]; exact Finset.Subset.refl _)
    (by intro _ h; (repeat (cases h with | head => rfl | tail _ h => ?_)); exact nomatch h) (W₁ m G) (fun c => iprop(argsHeld m c ∗ owing c))

/-- The one prefetched table, as a points-to. -/
theorem prefHeld_eq (c : Dev nD) (X : pre0.Contents (Elt F)) :
    (Pipeline.prefHeld (Ix := Unit) (Name := ℕ) (U := UU nD τ) (Lvl := ℕ) pre0 c (fun _ => fullShare) X : sProp 𝕄)
      = (((c : Thread nD τ).loc main_arg3) ↦{fullShare} X 0) := by
  unfold Pipeline.prefHeld
  rw [show (Finset.univ : Finset (Fin 1)) = {0} from rfl, bigSep_singleton]; rfl

variable (hG : ∀ c, valsOf (G c) = val m c)

theorem Φ_first (c : Dev nD) :
    iprop((∃ f : Buf (Elt F) ((c : Thread nD τ).loc main_v8), ((c : Thread nD τ).loc main_v8) ↦{fullShare} f)
      ∗ Pipeline.ownSems0 (Ix := Unit) (Name := ℕ) (U := UU nD τ) (Lvl := ℕ) (Val := Elt F) (τ := τ) osem c
      ∗ (((c : Thread nD τ).loc main_arg3) ↦{fullShare} m ((c : Thread nD τ).loc main_arg3))
      ∗ (∃ f : Buf (Elt F) ((c : Thread nD τ).loc cc0_scratch0), ((c : Thread nD τ).loc cc0_scratch0) ↦{fullShare} f))
    ⊢ Φc m c 0 := by
  unfold Φc
  rw [Ring.AtBΦ_lt _ _ _ _ _ 0 (by decide), Ring.AtB_zero]
  unfold Ring.AtB₀
  iintro ⟨H8, Hs, HT, Hr⟩
  isplitr [HT]
  · isplitl [H8]
    · iapply (ahead_of_out c); iexact H8
    · iapply (free_of_parts c)
      isplitl [Hs]; · iexact Hs
      iexact Hr
  iexact HT

include hG in
theorem Φ_last (c : Dev nD) :
    Φc m c 16 ⊢ iprop(((((c : Thread nD τ).loc main_v8) ↦{fullShare} G c) ∗ (((c : Thread nD τ).loc main_arg3) ↦{fullShare} m ((c : Thread nD τ).loc main_arg3)))
      ∗ Pipeline.ownSems0 (Ix := Unit) (Name := ℕ) (U := UU nD τ) (Lvl := ℕ) (Val := Elt F) (τ := τ) osem c
      ∗ (∃ f : Buf (Elt F) ((c : Thread nD τ).loc cc0_scratch0), ((c : Thread nD τ).loc cc0_scratch0) ↦{fullShare} f)) := by
  unfold Φc
  rw [Ring.AtBΦ_end _ _ _ _ _ 16 rfl, ← hG c]
  unfold Ring.AtBEnd
  iintro ⟨⟨HB, HF⟩, HT⟩
  isplitl [HB HT]
  · isplitl [HB]
    · iapply (out_of_behind c (G c)); iexact HB
    · iexact HT
  iapply (parts_of_free c); iexact HF

set_option backward.isDefEq.respectTransparency.types false in
/-- The region. -/
def reg0 : Pipeline.RegionSeg (pcfgs (F := F)) (adm m) (dats m) () defs₀ 𝒱₀ L lv 0 where
  win := winFacts0.to₀
  block_pos := block_pos0
  stage_whole := stage_whole0
  K := Fin 2 × Fin 8
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ owing c)
  post c := iprop(StableHlo.held (c : Thread nD τ) outRefs (W₁ m G c) ∗ argsHeld m c ∗ owing c)
  X c := iprop((∃ f : Buf (Elt F) ((c : Thread nD τ).loc main_v8), ((c : Thread nD τ).loc main_v8) ↦{fullShare} f)
    ∗ Pipeline.ownSems0 (Ix := Unit) (Name := ℕ) (U := UU nD τ) (Lvl := ℕ) (Val := Elt F) (τ := τ) osem c)
  Y c := iprop((((c : Thread nD τ).loc main_v8) ↦{fullShare} G c) ∗ (((c : Thread nD τ).loc main_arg3) ↦{fullShare} m ((c : Thread nD τ).loc main_arg3)))
  Z c := iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg4) ↦{fullShare} m ((c : Thread nD τ).loc main_arg4))
    ∗ (((c : Thread nD τ).loc main_arg5) ↦{fullShare} m ((c : Thread nD τ).loc main_arg5))
    ∗ (((c : Thread nD τ).loc main_arg6) ↦{fullShare} m ((c : Thread nD τ).loc main_arg6))
    ∗ (((c : Thread nD τ).loc main_arg7) ↦{fullShare} m ((c : Thread nD τ).loc main_arg7))
    ∗ (((c : Thread nD τ).loc main_v9) ↦{fullShare} V m c main_v9))
  hentry c := by
    obtain rfl : c = 0 := Subsingleton.elim _ _
    rw [show StableHlo.held ((0 : Dev nD) : Thread nD τ) ucRefs (StableHlo.after hostOps0 (V₀ m 0)) = unscopedBufs 0 (V m 0) from (unscopedBufs_held 0 _).symm]
    have hsplit := (Pipeline.arrays_of_unscopedBufs (pcfgs (F := F)) (adm m) (dats m) winFacts0 arr_whole0 0
      ((dats m 0 0).share_full fun _ => rfl) (V m 0) (A_eq m 0)).trans
        (sep_mono .rfl (Entails.of_eq ((Pipeline.unscopedRest_split preFacts0 0 (V m 0)).trans
          (congrArg₂ (fun A B => iprop(A ∗ B)) (prefHeld_eq 0 _) (unscopedRestP0_eq 0 (V m 0))))))
    rw [V_eq m 0 main_arg0 (by decide), V_eq m 0 main_arg1 (by decide), V_eq m 0 main_arg2 (by decide),
      V_eq m 0 main_arg4 (by decide), V_eq m 0 main_arg5 (by decide), V_eq m 0 main_arg6 (by decide), V_eq m 0 main_arg7 (by decide),
      show V m 0 (pre0.ref 0) = m (((0 : Dev nD) : Thread nD τ).loc main_arg3) from V_eq m 0 main_arg3 (by decide)] at hsplit
    iintro ⟨⟨Hub, HO⟩, Hos, -⟩
    ihave H := hsplit $$ Hub
    icases H with ⟨Ha, HT, H0, H1, H2, H4, H5, H6, H7, -, -, -, -, -, H8, H9⟩
    imodintro
    isplitl [Ha]; · iexact Ha
    isplitl [HT]
    · rw [prefHeld_eq]; iexact HT
    isplitl [HO]
    · unfold Pipeline.Dat.owesAt Pipeline.owesWithin
      icases HO with ⟨%W, HO⟩; iexists W; isplitr; · ipureintro; exact fun _ _ => Or.inl trivial
      iexact HO
    isplitl [H8 Hos]
    · isplitl [H8]; · iexists _; iexact H8
      iexact Hos
    isplitl [H0]; · iexact H0
    isplitl [H1]; · iexact H1
    isplitl [H2]; · iexact H2
    isplitl [H4]; · iexact H4
    isplitl [H5]; · iexact H5
    isplitl [H6]; · iexact H6
    isplitl [H7]; · iexact H7
    iexact H9
  hin c := by
    obtain rfl : c = 0 := Subsingleton.elim _ _
    rw [show (dats m 0 0).Φ 0 = Φc m 0 0 from rfl, prefHeld_eq, scopedRest0_eq]
    refine BIBase.Entails.trans ?_ (Φ_first m 0)
    iintro ⟨⟨H8, Hos⟩, HT, Hr⟩
    isplitl [H8]; · iexact H8
    isplitl [Hos]; · iexact Hos
    isplitl [HT]; · iexact HT
    iexact Hr
  hout c := by
    rw [show (dats m 0 c).Φ (Fin.last (cfg0 (adm m 0)).N) = Φc m c grid0.N from rfl, scopedRest0_eq, N_0]
    exact Φ_last m G hG c
  hexit c := by
    rw [held_outRefs]; unfold argsHeld
    rw [show W₁ m G c (Proc.devRef .tc main_v8) = G c from Function.update_self _ _ _,
      show W₁ m G c (Proc.devRef .tc main_v9) = V m c main_v9 from Function.update_of_ne (StableHlo.devRef_ne_of_ne (by decide)) _ _]
    iintro ⟨-, HO, ⟨H8, H3⟩, H0, H1, H2, H4, H5, H6, H7, H9⟩
    imodintro
    isplitl [H8 H9]
    · isplitl [H8]; · iexact H8
      iexact H9
    isplitr [HO]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · unfold Pipeline.Dat.owesAt Pipeline.owesWithin
      icases HO with ⟨%W, -, HO⟩; iexists W; iexact HO

/-- What the program returns, from the copied-out array. -/
def result (c : Dev nD) : S16x128x512x32.Idx → Elt F .f32 :=
  transpose S16x128x512x32 [0, 1, 3, 2] (G c) transposes_S16x128x32x512_S16x128x512x32_0_1_3_2

theorem after_v9 (c : Dev nD) : StableHlo.after hostOps1 (W₁ m G c) (Proc.devRef .tc main_v9) = result G c := by
  unfold result
  rw [← show W₁ m G c (Proc.devRef .tc main_v8) = G c from Function.update_self _ _ _]
  rw [StableHlo.after_cons, StableHlo.after_nil]
  exact StableHlo.unary_result ..

abbrev segs : List (Pipeline.Seg (pcfgs (F := F)) (adm m) (dats m) () defs₀ 𝒱₀ L lv) :=
  [.host (seg0 m), .region (reg0 m G hG), .host (seg1 m G)]

set_option backward.isDefEq.respectTransparency.types false in
include hG in
/-- Every execution terminates with the result returned, every argument as it was and every counter at zero. -/
theorem run_main : θ_run defs (onTc (τ := τ) (main (F := F))) ⟨m, fun _ => 0, ρ⟩ (fun r =>
    (∀ c : Dev nD, r.2.mem ((c : Thread nD τ).loc main_v9) = result G c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  Pipeline.θ_run_regions_kit_sems (pcfgs (F := F)) (adm m) (dats m) () (cellOf_inj (adm m)) EP defs₀ 𝒱₀ L lv m ρ main (segs m G hG)
    (fun c Q => by rw [main_segs (adm m) (dats m) () 𝒱₀ L lv (seg0 m) (seg1 m G) (reg0 m G hG) rfl rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ owing c))
    (Tₙ := fun c => iprop(StableHlo.held (c : Thread nD τ) outRefs (StableHlo.after hostOps1 (W₁ m G c)) ∗ argsHeld m c))
    (hch := ⟨fun _ => .rfl, fun _ => .rfl, fun _ => .rfl, fun c => by
      show iprop(StableHlo.held (c : Thread nD τ) outRefs (StableHlo.after hostOps1 (W₁ m G c)) ∗ argsHeld m c ∗ owing c) ⊢ _
      iintro ⟨Hh, Ha, HO⟩
      isplitr [HO]
      · isplitl [Hh]; · iexact Hh
        iexact Ha
      iexact HO⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := fun c s => s.mem ((c : Thread nD τ).loc main_v9) = result G c
      ∧ s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_arg3) = m ((c : Thread nD τ).loc main_arg3)
      ∧ s.mem ((c : Thread nD τ).loc main_arg4) = m ((c : Thread nD τ).loc main_arg4)
      ∧ s.mem ((c : Thread nD τ).loc main_arg5) = m ((c : Thread nD τ).loc main_arg5)
      ∧ s.mem ((c : Thread nD τ).loc main_arg6) = m ((c : Thread nD τ).loc main_arg6)
      ∧ s.mem ((c : Thread nD τ).loc main_arg7) = m ((c : Thread nD τ).loc main_arg7))
    (hfin := fun c s' => by
      rw [held_outRefs, after_v9]; unfold argsHeld
      iintro ⟨⟨⟨-, H9⟩, H0, H1, H2, H3, H4, H5, H6, H7⟩, HSI⟩
      icombine HSI H9 gives %h9
      icombine HSI H0 gives %h0
      icombine HSI H1 gives %h1
      icombine HSI H2 gives %h2
      icombine HSI H3 gives %h3
      icombine HSI H4 gives %h4
      icombine HSI H5 gives %h5
      icombine HSI H6 gives %h6
      icombine HSI H7 gives %h7
      imodintro
      isplitr
      · ipureintro
        exact ⟨Buf.eq_of_forall_mem_univ h9, Buf.eq_of_forall_mem_univ h0, Buf.eq_of_forall_mem_univ h1, Buf.eq_of_forall_mem_univ h2,
          Buf.eq_of_forall_mem_univ h3, Buf.eq_of_forall_mem_univ h4, Buf.eq_of_forall_mem_univ h5, Buf.eq_of_forall_mem_univ h6, Buf.eq_of_forall_mem_univ h7⟩
      iexact HSI)
    (hQ := fun _ h hz => ⟨h, funext fun g => hz g (.inr (by revert g; decide))⟩)

end Out

end Cert.KernelIdeal.Hand

end
-- ==== Proof.Out.lean ====
/-
  The array the region writes, element by element.

  Row `x 0` of the batch is the grid point, `x 1` the position, `x 2` the feature and `x 3` the location: the element is
  the part free of the distance plus the coefficient times the distance. Read at any sixteen rows it is the tile.
-/
module

public import proofs.«01_k».proof.Proof.Launch
public import Idealize.ShloMosaic.Lib.Pointwise

@[expose] public section

noncomputable section

namespace Cert.KernelIdeal.Hand

open Cert.KernelIdeal Cert.KernelIdeal.Gen
open Idealize.ShloMosaic Idealize.ShloMosaic.TcCoe

variable {F : FTy → Type} [FloatOps F] [Named F]

/-- One element of a tile, from the position and feature in the block. -/
def elemVal (w : BitVec 32) (X2 : S1x128x1x512.Idx → Elt F .f32) (X3 : S1x128x1x1.Idx → Elt F .f32) (X4 : S4x2x32x1.Idx → Elt F .f32)
    (t : Fin 128) (e : Fin 32) (l : Fin 512) : F .f32 :=
  FloatOps.addf (coefP w X3 X4 (ix3 t e 0)) (FloatOps.mulf (coefS w X4 (ix3 t e 0)) (X2 (ix4 0 t 0 l)))

/-- A coefficient read at sixteen rows from `r` on. -/
theorem coef_read (C : S128x32x1.Idx → F .f32) (r : ℕ) (hr : r + 16 ≤ 128) (a : Fin 16) (e : Fin 32) (l : Fin 512) :
    broadcastTo S16x32x512 (extractStridedSlice S16x32x1 ![r, 0, 0] C (rows_slices r hr)) broadcasts_S16x32x1_S16x32x512 (ix3 a e l)
      = C (ix3 ⟨r + a.val, by omega⟩ e 0) := by
  refine (broadcastTo_apply _ _ _ (ix3 a e 0) fun i => ?_).trans (extractStridedSlice_apply _ _ _ _ _ fun i => ?_)
  · match i with
    | ⟨0, _⟩ => rfl
    | ⟨1, _⟩ => rfl
    | ⟨2, _⟩ => rfl
  · match i with
    | ⟨0, _⟩ => rfl
    | ⟨1, _⟩ => show e.val = 0 + e.val; omega
    | ⟨2, _⟩ => rfl

theorem tileVal_apply (w : BitVec 32) (X2 : S1x128x1x512.Idx → Elt F .f32) (X3 : S1x128x1x1.Idx → Elt F .f32) (X4 : S4x2x32x1.Idx → Elt F .f32)
    (r : ℕ) (hr : r + 16 ≤ 128) (a : Fin 16) (e : Fin 32) (l : Fin 512) :
    tileVal w X2 X3 X4 r hr (ix3 a e l) = elemVal w X2 X3 X4 ⟨r + a.val, by omega⟩ e l := by
  unfold tileVal elemVal
  refine congrArg₂ FloatOps.addf (coef_read _ r hr a e l) (congrArg₂ FloatOps.mulf (coef_read _ r hr a e l) ?_)
  refine (broadcastTo_apply _ _ _ (ix3 a 0 l) fun i => ?_).trans ?_
  · match i with
    | ⟨0, _⟩ => rfl
    | ⟨1, _⟩ => rfl
    | ⟨2, _⟩ => rfl
  refine (shapeCast_dropUnit_apply ![16, 1, 512] _ _ _).trans (congrArg X2 (funext fun i => Fin.ext ?_))
  match i with
    | ⟨0, _⟩ => rfl
    | ⟨1, _⟩ => show r + 1 * a.val = r + a.val; omega
    | ⟨2, _⟩ => rfl
    | ⟨3, _⟩ => show 0 + 1 * l.val = l.val; omega

variable (m : (ℓ : Loc nD τ sig) → Buf (Elt F) ℓ) (c : Dev nD)

/-- What the region leaves in its result. -/
def outG : S16x128x32x512.Idx → Elt F .f32 := fun x =>
  elemVal (word c (grid0.coords (pt (x 0))) (m ((c : Thread nD τ).loc main_arg3))) (blkRead m c 0 (pt (x 0))) (blkRead m c 1 (pt (x 0)))
    (blkRead m c 2 (pt (x 0))) (x 1) (x 2) (x 3)

theorem piece_read (G : S16x128x32x512.Idx → Elt F .f32) (u : Fin 16) (r : ℕ) (hr : r + 16 ≤ 128) (a : Fin 16) (e : Fin 32) (l : Fin 512) :
    (piece u r hr).view.read (Elt F) G (ix3 a e l) = G (ix4 u ⟨r + a.val, by omega⟩ e l) := by
  refine (shapeCast_dropUnit_apply ![16, 32, 512]
    (fun y : S1x16x32x512.Idx => G ((Rect.unit (s := S16x128x32x512) ![u.val, r, 0, 0] S1x16x32x512.size (piece_inb u r hr)).emb y)) (by decide) (ix3 a e l)).trans
    (congrArg G (funext fun i => Fin.ext ?_))
  match i with
    | ⟨0, _⟩ => show u.val + 1 * 0 = u.val; omega
    | ⟨1, _⟩ => show r + 1 * a.val = r + a.val; omega
    | ⟨2, _⟩ => show 0 + 1 * e.val = e.val; omega
    | ⟨3, _⟩ => show 0 + 1 * l.val = l.val; omega

/-- The array brings the tiles to the pieces. -/
theorem valsOf_outG : valsOf (outG m c) = val m c := by
  funext u r hr y
  rw [eq_ix3 y]
  exact (piece_read (outG m c) u r hr _ _ _).trans (tileVal_apply _ _ _ _ r hr _ _ _).symm

end Cert.KernelIdeal.Hand

end
-- ==== Proof.RefValue.lean ====
/-
  The reference's result, element by element.

  The reference looks up one of two rows of each table, by whether the position lies inside the batch row's length, and
  blends the four rows linearly in the two distances.
-/
module

public import proofs.«01_k».proof.Proof.Gen.ReferenceIdeal
public import proofs.«01_k».proof.Proof.Gen.ReferenceIdeal.Run
public import Idealize.ShloMosaic.Lib.Pointwise
public import Idealize.ShloMosaic.Lib.ReduceAll

@[expose] public section

noncomputable section

namespace Cert.ReferenceIdeal.Hand

open Cert.ReferenceIdeal Cert.ReferenceIdeal.Gen
open Idealize.ShloMosaic Idealize.ShloMosaic.TcCoe

/-! ## The term, in parts -/

section Parts

variable {F : FTy → Type} [FloatOps F]

/-- Which row of a table each position reads, as a word. -/
def rowOf (n : IVec S16 32) : IVec S16x128x1 32 :=
  broadcastInDim S16x128x1 ![0, 1] bcast_S16x128_S16x128x1_0_1
    (extui 32 (cmpi .sgt (broadcastInDim S16x128 ![0, 1] bcast_S16x1_S16x128_0_1 (broadcastInDim S16x1 ![0] bcast_S16_S16x1_0 n))
      (broadcastInDim S16x128 ![0, 1] bcast_S1x128_S16x128_0_1 (broadcastInDim S1x128 ![1] bcast_S128_S1x128_1 (iotaInDim S128 32 0)))) natLt_1_32)

/-- The row number with a negative one counted from the end. -/
def startOf (k : IVec S16x128x1 32) : IVec S16x128x1x1 32 :=
  broadcastInDim S16x128x1x1 ![0, 1, 2] bcast_S16x128x1_S16x128x1x1_0_1_2
    (select (cmpi .slt k (broadcastInDim S16x128x1 ![] bcast_S_S16x128x1 (constantI S_ 32 0#32)))
      (addi k (broadcastInDim S16x128x1 ![] bcast_S_S16x128x1 (constantI S_ 32 2#32))) k)

/-- Where the row number is one of the table's. -/
def insideOf (k : IVec S16x128x1 32) : IVec S16x128x1x1 1 :=
  andi (cmpi .sge (startOf k) (broadcastInDim S16x128x1x1 ![] bcast_S_S16x128x1x1 (constantI S_ 32 0#32)))
    (cmpi .sle (startOf k) (broadcastInDim S16x128x1x1 ![0, 1, 2, 3] bcast_S1x1x1x1_S16x128x1x1_0_1_2_3
      (broadcastInDim S1x1x1x1 ![3] bcast_S1_S1x1x1x1_3 (constantI S1 32 1#32))))

/-- The looked-up rows. -/
def takeOf (x : FVec F S2x32 .f32) (k : IVec S16x128x1 32) : FVec F S16x128x1x32 .f32 :=
  select (broadcastInDim S16x128x1x32 ![0, 1, 2] bcast_S16x128x1_S16x128x1x32_0_1_2
      (Host.reduce IntOp.andi (insideOf k) (constantI S_ 1 1#1) reducesTo_S16x128x1x1_S16x128x1_d3 h_S_))
    (Host.gather gather_S2x32_S16x128x1x1_S16x128x1x32_3_0_n_n_0_3_132 x (startOf k))
    (broadcastInDim S16x128x1x32 ![] bcast_S_S16x128x1x32 (constant S_ .f32 0x7FC00000#32))

/-- The blend in the distance in space of the looked-up rows. -/
def spaceOf (mat : FVec F S16x128x512 .f32) (sl su : FVec F S16x128x1x32 .f32) : FVec F S16x128x512x32 .f32 :=
  Host.divf
    (addf
      (mulf (broadcastInDim S16x128x512x32 ![0, 1, 2, 3] bcast_S16x128x1x32_S16x128x512x32_0_1_2_3 sl)
        (broadcastInDim S16x128x512x32 ![0, 1, 2, 3] bcast_S16x128x512x1_S16x128x512x32_0_1_2_3
          (broadcastInDim S16x128x512x1 ![0, 1, 2] bcast_S16x128x512_S16x128x512x1_0_1_2
            (subf (broadcastInDim S16x128x512 ![] bcast_S_S16x128x512 (constant S_ .f32 0x42C80000#32)) mat))))
      (mulf (broadcastInDim S16x128x512x32 ![0, 1, 2, 3] bcast_S16x128x1x32_S16x128x512x32_0_1_2_3 su)
        (broadcastInDim S16x128x512x32 ![0, 1, 2, 3] bcast_S16x128x512x1_S16x128x512x32_0_1_2_3
          (broadcastInDim S16x128x512x1 ![0, 1, 2] bcast_S16x128x512_S16x128x512x1_0_1_2
            (subf mat (broadcastInDim S16x128x512 ![] bcast_S_S16x128x512 (constant S_ .f32 0x00000000#32)))))))
    (broadcastInDim S16x128x512x32 ![] bcast_S_S16x128x512x32 (constant S_ .f32 0x42C80000#32))

/-- The blend in the distance in time of the looked-up rows. -/
def timeOf (vec : FVec F S16x128 .f32) (tl tu : FVec F S16x128x1x32 .f32) : FVec F S16x128x1x32 .f32 :=
  Host.divf
    (addf
      (mulf tl (broadcastInDim S16x128x1x32 ![0, 1, 2, 3] bcast_S16x128x1x1_S16x128x1x32_0_1_2_3
        (broadcastInDim S16x128x1x1 ![0, 1, 2] bcast_S16x128x1_S16x128x1x1_0_1_2
          (subf (broadcastInDim S16x128x1 ![] bcast_S_S16x128x1 (constant S_ .f32 0x447A0000#32))
            (broadcastInDim S16x128x1 ![0, 1] bcast_S16x128_S16x128x1_0_1 vec)))))
      (mulf tu (broadcastInDim S16x128x1x32 ![0, 1, 2, 3] bcast_S16x128x1x1_S16x128x1x32_0_1_2_3
        (broadcastInDim S16x128x1x1 ![0, 1, 2] bcast_S16x128x1_S16x128x1x1_0_1_2
          (subf (broadcastInDim S16x128x1 ![0, 1] bcast_S16x128_S16x128x1_0_1 vec)
            (broadcastInDim S16x128x1 ![] bcast_S_S16x128x1 (constant S_ .f32 0x00000000#32)))))))
    (broadcastInDim S16x128x1x32 ![] bcast_S_S16x128x1x32 (constant S_ .f32 0x447A0000#32))

/-- The reference's result of its arguments. -/
def refOf (mat : FVec F S16x128x512 .f32) (vec : FVec F S16x128 .f32) (n : IVec S16 32) (su sl tu tl : FVec F S2x32 .f32) :
    FVec F S16x128x512x32 .f32 :=
  addf (spaceOf mat (takeOf sl (rowOf n)) (takeOf su (rowOf n)))
    (broadcastInDim S16x128x512x32 ![0, 1, 2, 3] bcast_S16x128x1x32_S16x128x512x32_0_1_2_3
      (timeOf vec (takeOf tl (rowOf n)) (takeOf tu (rowOf n))))

theorem res_eq (m : (ℓ : Loc nD τ sig) → Buf (Elt F) ℓ) (c : Dev nD) :
    Value.res_main_v42 m c = refOf (F := F) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold Value.res_main_v42 refOf spaceOf timeOf takeOf insideOf startOf rowOf
  rfl

end Parts

/-! ## The looked-up row -/

/-- The position lies inside the length. -/
abbrev inside (n : BitVec 32) (t : Fin 128) : Bool := (BitVec.ofNat 32 t.val).slt n

/-- The row of a table that a position reads: 1 inside the length, 0 from there on. -/
abbrev rowNo (n : BitVec 32) (t : Fin 128) : Fin 2 := if inside n t then 1 else 0

theorem rowOf_apply (n : IVec S16 32) (b : Fin 16) (t : Fin 128) (z : Fin 1) :
    rowOf n (ix3 b t z) = BitVec.ofNat 32 (rowNo (n (ix1 b)) t).val := by
  pointwise [rowOf]
  show BitVec.setWidth 32 (BitVec.ofBool (inside (n (ix1 b)) t)) = BitVec.ofNat 32 (if inside (n (ix1 b)) t then (1 : Fin 2) else 0).val
  cases inside (n (ix1 b)) t <;> rfl

theorem startOf_apply (k : IVec S16x128x1 32) (b : Fin 16) (t : Fin 128) (z y : Fin 1) (j : Fin 2) (h : k (ix3 b t z) = BitVec.ofNat 32 j.val) :
    startOf k (ix4 b t z y) = BitVec.ofNat 32 j.val := by
  obtain rfl : z = 0 := Subsingleton.elim _ _
  pointwise [startOf]
  rw [h]
  match j with
  | 0 => rfl
  | 1 => rfl

theorem insideOf_apply (k : IVec S16x128x1 32) (b : Fin 16) (t : Fin 128) (z y : Fin 1) (j : Fin 2) (h : k (ix3 b t z) = BitVec.ofNat 32 j.val) :
    insideOf k (ix4 b t z y) = 1#1 := by
  pointwise [insideOf]
  rw [startOf_apply k b t z y j h]
  match j with
  | 0 => rfl
  | 1 => rfl

/-- A lookup reads the row that its start index names. -/
theorem gather_apply {α : Type} (x : S2x32.Idx → α) (s : IVec S16x128x1x1 32) (b : Fin 16) (t : Fin 128) (z : Fin 1) (e : Fin 32) (j : Fin 2)
    (h : ∀ y, s (ix4 b t z y) = BitVec.ofNat 32 j.val) :
    Host.gather gather_S2x32_S16x128x1x1_S16x128x1x32_3_0_n_n_0_3_132 x s (ix4 b t z e) = x (ix2 j e) := by
  unfold Host.gather
  refine congrArg x (funext fun a => Fin.ext ?_)
  generalize hd : gather_S2x32_S16x128x1x1_S16x128x1x32_3_0_n_n_0_3_132 = d
  match a with
  | ⟨0, _⟩ =>
    subst hd
    show GatherDims.start _ (ix4 b t z e) s 0 + GatherDims.batchCoord _ (ix4 b t z e) 0 + GatherDims.offCoord _ (ix4 b t z e) 0 = j.val
    rw [GatherDims.batchCoord_eq_zero _ _ _ List.not_mem_nil,
      GatherDims.offCoord_eq_zero _ _ _ (fun h => ((GatherDims.mem_sKept _ _).mp h).1 (by decide))]
    unfold GatherDims.start
    rw [dif_pos (by decide)]
    have hsi : GatherDims.siIdx gather_S2x32_S16x128x1x1_S16x128x1x32_3_0_n_n_0_3_132 (ix4 b t z e) ⟨0, by decide⟩ = ix4 b t z 0 := by
      funext q
      match q with
      | ⟨0, _⟩ => rfl
      | ⟨1, _⟩ => rfl
      | ⟨2, _⟩ => rfl
      | ⟨3, _⟩ => rfl
    refine (congrArg (fun q => min (q.toInt.toNat) _ + 0 + 0) ((congrArg s hsi).trans (h 0))).trans ?_
    match j with
    | 0 => rfl
    | 1 => rfl
  | ⟨1, _⟩ =>
    subst hd
    show GatherDims.start _ (ix4 b t z e) s 1 + GatherDims.batchCoord _ (ix4 b t z e) 1 + GatherDims.offCoord _ (ix4 b t z e) 1 = e.val
    rw [GatherDims.batchCoord_eq_zero _ _ _ List.not_mem_nil]
    unfold GatherDims.start
    rw [dif_neg (by decide)]
    exact (Nat.zero_add _).trans rfl

theorem takeOf_apply {F : FTy → Type} [FloatOps F] (x : FVec F S2x32 .f32) (k : IVec S16x128x1 32) (r : S16x128.Idx → Fin 2)
    (h : ∀ b t z, k (ix3 b t z) = BitVec.ofNat 32 (r (ix2 b t)).val) (b : Fin 16) (t : Fin 128) (z : Fin 1) (e : Fin 32) :
    takeOf x k (ix4 b t z e) = x (ix2 (r (ix2 b t)) e) := by
  have hin : ∀ i, insideOf k i = 1#1 := fun i => by
    rw [eq_ix4 i]; exact insideOf_apply k _ _ _ _ _ (h _ _ _)
  have hall : ∀ i, broadcastInDim S16x128x1x32 ![0, 1, 2] bcast_S16x128x1_S16x128x1x32_0_1_2
      (Host.reduce IntOp.andi (insideOf k) (constantI S_ 1 1#1) reducesTo_S16x128x1x1_S16x128x1_d3 h_S_) i = 1#1 := fun i =>
    Host.reduce_andi_one _ _ _ _ _ rfl hin
  unfold takeOf
  refine (if_pos (by rw [hall]; rfl)).trans ?_
  exact gather_apply x (startOf k) b t z e _ fun y => startOf_apply k b t z y _ (h b t z)

/-! ## The element -/

theorem hundred : Ideal.ofBits .f32 0x42C80000#32 = ((100 : ℝ) : EReal) := by
  simp [Ideal.ofBits, Ideal.ieee, -EReal.coe_mul]; norm_num
theorem thousand : Ideal.ofBits .f32 0x447A0000#32 = ((1000 : ℝ) : EReal) := by
  simp [Ideal.ofBits, Ideal.ieee, -EReal.coe_mul]; norm_num

/-- The blend of two ends over an extent `L`, at distance `d` from the lower one. -/
def blend (L : ℝ) (lo hi d : EReal) : EReal := Ideal.div (lo * ((L : EReal) - d) + hi * d) (L : EReal)

theorem spaceOf_apply (mat : FVec Ideal S16x128x512 .f32) (sl su : FVec Ideal S16x128x1x32 .f32) (b : Fin 16) (t : Fin 128) (l : Fin 512) (e : Fin 32) :
    spaceOf mat sl su (ix4 b t l e) = blend 100 (sl (ix4 b t 0 e)) (su (ix4 b t 0 e)) (mat (ix3 b t l)) := by
  pointwise [spaceOf]
  rw [hundred]; rfl

theorem timeOf_apply (vec : FVec Ideal S16x128 .f32) (tl tu : FVec Ideal S16x128x1x32 .f32) (b : Fin 16) (t : Fin 128) (z : Fin 1) (e : Fin 32) :
    timeOf vec tl tu (ix4 b t z e) = blend 1000 (tl (ix4 b t z e)) (tu (ix4 b t z e)) (vec (ix2 b t)) := by
  pointwise [timeOf]
  rw [thousand]; rfl

/-- The reference's element: the two blends of the row that the position reads. -/
theorem refOf_apply (mat : FVec Ideal S16x128x512 .f32) (vec : FVec Ideal S16x128 .f32) (n : IVec S16 32) (su sl tu tl : FVec Ideal S2x32 .f32)
    (b : Fin 16) (t : Fin 128) (l : Fin 512) (e : Fin 32) :
    refOf mat vec n su sl tu tl (ix4 b t l e)
      = blend 100 (sl (ix2 (rowNo (n (ix1 b)) t) e)) (su (ix2 (rowNo (n (ix1 b)) t) e)) (mat (ix3 b t l))
        + blend 1000 (tl (ix2 (rowNo (n (ix1 b)) t) e)) (tu (ix2 (rowNo (n (ix1 b)) t) e)) (vec (ix2 b t)) := by
  have h (x : FVec Ideal S2x32 .f32) : takeOf x (rowOf n) (ix4 b t 0 e) = x (ix2 (rowNo (n (ix1 b)) t) e) :=
    takeOf_apply x (rowOf n) (fun i => rowNo (n (ix1 (i 0))) (i 1)) (fun b t z => rowOf_apply n b t z) b t 0 e
  pointwise [refOf]
  rw [spaceOf_apply, timeOf_apply, h, h, h, h]

end Cert.ReferenceIdeal.Hand

end
-- ==== Proof.KernelValue.lean ====
/-
  The kernel's element over the extended reals.

  The staged blocks are read back to the arguments; the coefficients are the selected row's ends, as the kernel
  spells them.
-/
module

public import proofs.«01_k».proof.Proof.Out
public import Idealize.ShloMosaic.Lib.Pointwise.Select

@[expose] public section

noncomputable section

namespace Cert.KernelIdeal.Hand

open Cert.KernelIdeal Cert.KernelIdeal.Gen
open Idealize.ShloMosaic Idealize.ShloMosaic.TcCoe

/-! ## The coefficients -/

/-- A table's row read at a feature. -/
theorem row_apply {F : FTy → Type} [FloatOps F] (X4 : S4x2x32x1.Idx → Elt F .f32) (k j : ℕ) (hk : k < 4) (hj : j < 2) (e : Fin 32) :
    row X4 k j hk hj (ix4 0 0 e 0) = X4 (ix4 ⟨k, hk⟩ ⟨j, hj⟩ e 0) := by
  refine congrArg X4 (funext fun i => Fin.ext ?_)
  match i with
    | ⟨0, _⟩ => rfl
    | ⟨1, _⟩ => rfl
    | ⟨2, _⟩ => show 0 + 1 * e.val = e.val; omega
    | ⟨3, _⟩ => rfl

theorem inv_t : Named.named (F := Ideal) κ "inv_t" (φ := .f32) 0x3A83126F#32 = ((1 / 1000 : ℝ) : EReal) :=
  IdealRules.named_const.ideal_named_scalar κ "inv_t" _ _ rfl
theorem inv_s : Named.named (F := Ideal) κ "inv_s" (φ := .f32) 0x3C23D70A#32 = ((1 / 100 : ℝ) : EReal) :=
  IdealRules.named_const.ideal_named_scalar κ "inv_s" _ _ rfl

/-- The position lies inside the length. -/
abbrev inside (n : BitVec 32) (t : Fin 128) : Bool := (BitVec.ofNat 32 t.val).slt n

/-- The row of a table that a position reads: 1 inside the length, 0 from there on. -/
abbrev rowNo (n : BitVec 32) (t : Fin 128) : Fin 2 := if inside n t then 1 else 0

theorem select_inside {α : Type} (n : BitVec 32) (t : Fin 128) (f : Fin 2 → α) :
    Scalar.select (IntOp.cmpi .sgt n (BitVec.ofNat 32 t.val)) (f 1) (f 0) = f (rowNo n t) := by
  show (if BitVec.ofBool (inside n t) = 1#1 then f 1 else f 0) = f (if inside n t then 1 else 0)
  cases inside n t <;> rfl

theorem coefS_apply (w : BitVec 32) (X4 : S4x2x32x1.Idx → Elt Ideal .f32) (t : Fin 128) (e : Fin 32) :
    coefS (F := Ideal) w X4 (ix3 t e 0)
      = (X4 (ix4 1 (rowNo w t) e 0) - X4 (ix4 0 (rowNo w t) e 0)) * ((1 / 100 : ℝ) : EReal) := by
  pointwise [coefS, k0_pay10, k0_pay9, k0_pay5, k0_pay6, k0_pay1]
  rw [inv_s]
  simp only [row_apply]
  exact select_inside w t fun j => (X4 (ix4 1 j e 0) - X4 (ix4 0 j e 0)) * ((1 / 100 : ℝ) : EReal)

theorem coefP_apply (w : BitVec 32) (X3 : S1x128x1x1.Idx → Elt Ideal .f32) (X4 : S4x2x32x1.Idx → Elt Ideal .f32) (t : Fin 128) (e : Fin 32) :
    coefP (F := Ideal) w X3 X4 (ix3 t e 0)
      = X4 (ix4 0 (rowNo w t) e 0) + X4 (ix4 2 (rowNo w t) e 0)
        + (X4 (ix4 3 (rowNo w t) e 0) - X4 (ix4 2 (rowNo w t) e 0)) * ((1 / 1000 : ℝ) : EReal) * X3 (ix4 0 t 0 0) := by
  pointwise [coefP, k0_pay11, k0_pay7, k0_pay8, k0_pay1, k0_pay2, k0_pay3, k0_pay4]
  rw [inv_t]
  simp only [row_apply]
  refine congrArg₂ (· + ·) (select_inside w t fun j => X4 (ix4 0 j e 0) + X4 (ix4 2 j e 0))
    (congrArg₂ (· * ·) (select_inside w t fun j => (X4 (ix4 3 j e 0) - X4 (ix4 2 j e 0)) * ((1 / 1000 : ℝ) : EReal))
      (congrArg X3 (funext fun i => Fin.ext ?_)))
  match i with
    | ⟨0, _⟩ => rfl
    | ⟨1, _⟩ => show 0 + 1 * t.val = t.val; omega
    | ⟨2, _⟩ => rfl
    | ⟨3, _⟩ => rfl

/-! ## The staged blocks -/

section Blocks

variable {F : FTy → Type} [FloatOps F] [Named F] (m : (ℓ : Loc nD τ sig) → Buf (Elt F) ℓ) (c : Dev nD)

theorem V_mat : V m c main_v6 = (broadcastInDim S16x128x1x512 ![0, 1, 3] bcast_S16x128x512_S16x128x1x512_0_1_3 (m ((c : Thread nD τ).loc main_arg1)) : S16x128x1x512.Idx → Elt F .f32) := by
  unfold V
  after_results
theorem V_vec : V m c main_v7 = (broadcastInDim S16x128x1x1 ![0, 1] bcast_S16x128_S16x128x1x1_0_1 (m ((c : Thread nD τ).loc main_arg2)) : S16x128x1x1.Idx → Elt F .f32) := by
  unfold V
  after_results
/-- A table as a stack of one. -/
abbrev oneOf (x : S2x32.Idx → Elt F .f32) : S1x2x32.Idx → Elt F .f32 := broadcastInDim S1x2x32 ![1, 2] bcast_S2x32_S1x2x32_1_2 x
theorem V_tabs : V m c main_v5 = (broadcastInDim S4x2x32x1 ![0, 1, 2] bcast_S4x2x32_S4x2x32x1_0_1_2
    (concatenate S4x2x32 0 [⟨S1x2x32, oneOf (m ((c : Thread nD τ).loc main_arg5))⟩, ⟨S1x2x32, oneOf (m ((c : Thread nD τ).loc main_arg4))⟩,
      ⟨S1x2x32, oneOf (m ((c : Thread nD τ).loc main_arg7))⟩, ⟨S1x2x32, oneOf (m ((c : Thread nD τ).loc main_arg6))⟩] concatenates_S1x2x32_S1x2x32_S1x2x32_S1x2x32_S4x2x32_d0) : S4x2x32x1.Idx → Elt F .f32) := by
  unfold V
  after_results
  rfl

/-- The three blocks' places in their arrays, by the point. -/
theorem place_mat : ∀ u : Fin 16, cc0_transform_0 (grid0.coords (pt u)) = ![u.val, 0, 0, 0] := by decide +kernel
theorem place_vec : ∀ u : Fin 16, cc0_transform_1 (grid0.coords (pt u)) = ![u.val, 0, 0, 0] := by decide +kernel
theorem place_tabs : ∀ u : Fin 16, cc0_transform_2 (grid0.coords (pt u)) = ![0, 0, 0, 0] := by decide +kernel

theorem blk_mat (u : Fin 16) (t : Fin 128) (l : Fin 512) :
    blkRead m c 0 (pt u) (ix4 0 t 0 l : S1x128x1x512.Idx) = m ((c : Thread nD τ).loc main_arg1) (ix3 u t l : S16x128x512.Idx) := by
  have he : ((((cfg0 (adm m 0)).win 0).blk (pt u)).view.emb (ix4 0 t 0 l : S1x128x1x512.Idx)) = (ix4 u t 0 l : S16x128x1x512.Idx) := by
    funext i
    apply Fin.ext
    refine (Pipeline.Window.rect_emb_val ((cfg0 (adm m 0)).win 0) (pt u) (ix4 0 t 0 l : S1x128x1x512.Idx) i).trans ?_
    show cc0_transform_0 (grid0.coords (pt u)) i * _ + _ = _
    rw [place_mat]
    match i with
    | ⟨0, _⟩ => show u.val * 1 + 0 = u.val; omega
    | ⟨1, _⟩ => show 0 * 128 + t.val = t.val; omega
    | ⟨2, _⟩ => rfl
    | ⟨3, _⟩ => show 0 * 512 + l.val = l.val; omega
  refine (congrArg (V m c main_v6) he).trans ?_
  rw [V_mat]
  pointwise []

theorem blk_vec (u : Fin 16) (t : Fin 128) :
    blkRead m c 1 (pt u) (ix4 0 t 0 0 : S1x128x1x1.Idx) = m ((c : Thread nD τ).loc main_arg2) (ix2 u t : S16x128.Idx) := by
  have he : ((((cfg0 (adm m 0)).win 1).blk (pt u)).view.emb (ix4 0 t 0 0 : S1x128x1x1.Idx)) = (ix4 u t 0 0 : S16x128x1x1.Idx) := by
    funext i
    apply Fin.ext
    refine (Pipeline.Window.rect_emb_val ((cfg0 (adm m 0)).win 1) (pt u) (ix4 0 t 0 0 : S1x128x1x1.Idx) i).trans ?_
    show cc0_transform_1 (grid0.coords (pt u)) i * _ + _ = _
    rw [place_vec]
    match i with
    | ⟨0, _⟩ => show u.val * 1 + 0 = u.val; omega
    | ⟨1, _⟩ => show 0 * 128 + t.val = t.val; omega
    | ⟨2, _⟩ => rfl
    | ⟨3, _⟩ => rfl
  refine (congrArg (V m c main_v7) he).trans ?_
  rw [V_vec]
  pointwise []

theorem stack_apply (a b p q : S2x32.Idx → Elt F .f32) (k : Fin 4) (j : Fin 2) (e : Fin 32) :
    broadcastInDim S4x2x32x1 ![0, 1, 2] bcast_S4x2x32_S4x2x32x1_0_1_2
      (concatenate S4x2x32 0 [⟨S1x2x32, oneOf a⟩, ⟨S1x2x32, oneOf b⟩, ⟨S1x2x32, oneOf p⟩, ⟨S1x2x32, oneOf q⟩]
        concatenates_S1x2x32_S1x2x32_S1x2x32_S1x2x32_S4x2x32_d0) (ix4 k j e 0)
    = (![a, b, p, q] k) (ix2 j e) := by
  match k with
  | 0 => pointwise []
  | 1 => pointwise []
  | 2 => pointwise []
  | 3 => pointwise []

theorem blk_tabs (u : Fin 16) (k : Fin 4) (j : Fin 2) (e : Fin 32) :
    blkRead m c 2 (pt u) (ix4 k j e 0 : S4x2x32x1.Idx)
      = (![m ((c : Thread nD τ).loc main_arg5), m ((c : Thread nD τ).loc main_arg4), m ((c : Thread nD τ).loc main_arg7),
          m ((c : Thread nD τ).loc main_arg6)] k : S2x32.Idx → Elt F .f32) (ix2 j e : S2x32.Idx) := by
  have he : ((((cfg0 (adm m 0)).win 2).blk (pt u)).view.emb (ix4 k j e 0 : S4x2x32x1.Idx)) = (ix4 k j e 0 : S4x2x32x1.Idx) := by
    funext i
    apply Fin.ext
    refine (Pipeline.Window.rect_emb_val ((cfg0 (adm m 0)).win 2) (pt u) (ix4 k j e 0 : S4x2x32x1.Idx) i).trans ?_
    show cc0_transform_2 (grid0.coords (pt u)) i * _ + _ = _
    rw [place_tabs]
    match i with
    | ⟨0, _⟩ => show 0 * 4 + k.val = k.val; omega
    | ⟨1, _⟩ => show 0 * 2 + j.val = j.val; omega
    | ⟨2, _⟩ => show 0 * 32 + e.val = e.val; omega
    | ⟨3, _⟩ => rfl
  refine (congrArg (V m c main_v5) he).trans ?_
  rw [V_tabs]
  exact stack_apply _ _ _ _ k j e

theorem off17_val : ∀ u : Fin 16, k0_off17 (grid0.coords (pt u)) 0 = u.val := by decide +kernel

theorem word_apply (u : Fin 16) (n : IVec S16 32) : word (F := F) c (grid0.coords (pt u)) n = n (ix1 u) := by
  unfold word
  rw [View.readAt_apply]
  refine (congrArg n (funext fun a => Fin.ext ?_) : _ = n (ix1 u))
  match a with
  | ⟨0, _⟩ =>
    show k0_off17 (grid0.coords (pt u)) 0 + 1 * 0 = u.val
    rw [off17_val]; rfl

end Blocks

/-- A tile's element from what the windows show. -/
theorem elemVal_apply (w : BitVec 32) (X2 : S1x128x1x512.Idx → Elt Ideal .f32) (X3 : S1x128x1x1.Idx → Elt Ideal .f32)
    (X4 : S4x2x32x1.Idx → Elt Ideal .f32) (t : Fin 128) (e : Fin 32) (l : Fin 512) :
    elemVal (F := Ideal) w X2 X3 X4 t e l
      = X4 (ix4 0 (rowNo w t) e 0) + X4 (ix4 2 (rowNo w t) e 0)
        + (X4 (ix4 3 (rowNo w t) e 0) - X4 (ix4 2 (rowNo w t) e 0)) * ((1 / 1000 : ℝ) : EReal) * X3 (ix4 0 t 0 0)
        + (X4 (ix4 1 (rowNo w t) e 0) - X4 (ix4 0 (rowNo w t) e 0)) * ((1 / 100 : ℝ) : EReal) * X2 (ix4 0 t 0 l) := by
  unfold elemVal
  rw [coefP_apply, coefS_apply]
  rfl

/-- The kernel's element from the row's four ends and the two distances. -/
def mix (sl su tl tu ds dt : EReal) : EReal :=
  sl + tl + (tu - tl) * ((1 / 1000 : ℝ) : EReal) * dt + (su - sl) * ((1 / 100 : ℝ) : EReal) * ds

/-- The region's array over the extended reals, of the arguments. -/
theorem outG_apply (m : (ℓ : Loc nD τ sig) → Buf (Elt Ideal) ℓ) (c : Dev nD) (u : Fin 16) (t : Fin 128) (e : Fin 32) (l : Fin 512)
    (r : Fin 2) (hr : r = rowNo ((m ((c : Thread nD τ).loc main_arg3) : IVec S16 32) (ix1 u)) t) :
    outG (F := Ideal) m c (ix4 u t e l)
      = mix ((m ((c : Thread nD τ).loc main_arg5) : FVec Ideal S2x32 .f32) (ix2 r e)) ((m ((c : Thread nD τ).loc main_arg4) : FVec Ideal S2x32 .f32) (ix2 r e))
          ((m ((c : Thread nD τ).loc main_arg7) : FVec Ideal S2x32 .f32) (ix2 r e)) ((m ((c : Thread nD τ).loc main_arg6) : FVec Ideal S2x32 .f32) (ix2 r e))
          ((m ((c : Thread nD τ).loc main_arg1) : FVec Ideal S16x128x512 .f32) (ix3 u t l)) ((m ((c : Thread nD τ).loc main_arg2) : FVec Ideal S16x128 .f32) (ix2 u t)) := by
  refine (elemVal_apply (word (F := Ideal) c (grid0.coords (pt u)) (m ((c : Thread nD τ).loc main_arg3)))
    (blkRead m c 0 (pt u)) (blkRead m c 1 (pt u)) (blkRead m c 2 (pt u)) t e l).trans ?_
  rw [word_apply c u (m ((c : Thread nD τ).loc main_arg3)), ← hr]
  unfold mix
  exact congrArg₂ (· + ·)
    (congrArg₂ (· + ·) (congrArg₂ (· + ·) (blk_tabs m c u 0 r e) (blk_tabs m c u 2 r e))
      (congrArg₂ (· * ·) (congrArg (· * ((1 / 1000 : ℝ) : EReal)) (congrArg₂ (· - ·) (blk_tabs m c u 3 r e) (blk_tabs m c u 2 r e))) (blk_vec m c u t)))
    (congrArg₂ (· * ·) (congrArg (· * ((1 / 100 : ℝ) : EReal)) (congrArg₂ (· - ·) (blk_tabs m c u 1 r e) (blk_tabs m c u 0 r e))) (blk_mat m c u t l))

end Cert.KernelIdeal.Hand

end
-- ==== Proof.Value.lean ====
/-
  The kernel's element is the reference's, over the extended reals.

  The two spell one linear interpolation differently. They agree whenever the distance and the lower end are real
  numbers, whatever the upper end is; the precondition gives that for every element.
-/
module

public import proofs.«01_k».proof.Defs
public import proofs.«01_k».proof.Proof.RefValue
public import proofs.«01_k».proof.Proof.KernelValue

@[expose] public section

noncomputable section

namespace Cert.Value

open Idealize.ShloMosaic Idealize.ShloMosaic.TcCoe

/-! ## One interpolation -/

/-- The weighted mean of two ends is the lower end and the distance's share of the gap. -/
theorem blend_eq (L : ℝ) (hL : 0 < L) (lo d : ℝ) (hi : EReal) :
    ReferenceIdeal.Hand.blend L lo hi d = lo + (hi - lo) * ((1 / L : ℝ) : EReal) * d := by
  have hL' : 0 < 1 / L := by positivity
  unfold ReferenceIdeal.Hand.blend
  rw [Ideal.div_coe hL.ne', ← EReal.coe_sub, ← EReal.coe_mul]
  induction hi with
  | coe hi =>
    simp only [← EReal.coe_mul, ← EReal.coe_add, ← EReal.coe_sub]
    congr 1
    field_simp
    ring
  | top =>
    rw [EReal.top_sub_coe, EReal.top_mul_coe_of_pos hL']
    rcases lt_trichotomy d 0 with h | h | h
    · rw [EReal.top_mul_coe_of_neg h, EReal.add_bot, EReal.add_bot, EReal.bot_mul_coe_of_pos hL']
    · subst h
      simp only [EReal.coe_zero, mul_zero, add_zero, sub_zero, ← EReal.coe_mul]
      congr 1
      field_simp
    · rw [EReal.top_mul_coe_of_pos h, EReal.coe_add_top, EReal.coe_add_top, EReal.top_mul_coe_of_pos hL']
  | bot =>
    rw [EReal.bot_sub, EReal.bot_mul_coe_of_pos hL']
    rcases lt_trichotomy d 0 with h | h | h
    · rw [EReal.bot_mul_coe_of_neg h, EReal.coe_add_top, EReal.coe_add_top, EReal.top_mul_coe_of_pos hL']
    · subst h
      simp only [EReal.coe_zero, mul_zero, add_zero, sub_zero, ← EReal.coe_mul]
      congr 1
      field_simp
    · rw [EReal.bot_mul_coe_of_pos h, EReal.add_bot, EReal.add_bot, EReal.bot_mul_coe_of_pos hL']

/-- The kernel's grouping of the two interpolations is their sum. -/
theorem mix_eq (sl tl ds dt : ℝ) (su tu : EReal) :
    KernelIdeal.Hand.mix sl su tl tu ds dt
      = ReferenceIdeal.Hand.blend 100 sl su ds + ReferenceIdeal.Hand.blend 1000 tl tu dt := by
  rw [blend_eq 100 (by norm_num), blend_eq 1000 (by norm_num)]
  unfold KernelIdeal.Hand.mix
  abel

/-! ## What the precondition says of an element -/

theorem infty : Ideal.ofBits .f32 0x7F800000#32 = ⊤ := by
  simp [Ideal.ofBits, Ideal.ieee]

theorem real_of_abs_lt (x : EReal) (h : max x (-x) < ⊤) : ∃ r : ℝ, x = r := by
  induction x with
  | coe r => exact ⟨r, rfl⟩
  | top => simp at h
  | bot => simp at h

/-- An array whose absolute values test below infinity holds real numbers. -/
theorem real_of_test {s : Shape} (x : FVec Ideal s .f32) (hb : (⟨0, ![]⟩ : Shape).BroadcastsInDim s (![] : Fin 0 → Fin s.rank))
    (h : cmpf .olt (Host.absf x) (broadcastInDim s ![] hb (constant (⟨0, ![]⟩ : Shape) .f32 0x7F800000#32)) = fun _ => 1#1)
    (i : s.Idx) : ∃ r : ℝ, (x i : EReal) = r := by
  have hi : BitVec.ofBool (decide (max (x i : EReal) (-(x i : EReal)) < Ideal.ofBits .f32 0x7F800000#32)) = 1#1 := congrFun h i
  rw [infty] at hi
  refine real_of_abs_lt _ ?_
  by_contra hn
  rw [decide_eq_false hn] at hi
  exact absurd hi (by decide)

/-! ## The results -/

instance preFacts : Cert.Pre_lows_finite.Facts := ⟨by decide, by decide, by decide⟩

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem transposed (G : KernelIdeal.S16x128x32x512.Idx → EReal) (h) (b : Fin 16) (t : Fin 128) (l : Fin 512) (e : Fin 32) :
    transpose KernelIdeal.S16x128x512x32 [0, 1, 3, 2] G h (ix4 b t l e) = G (ix4 b t e l) :=
  transpose_apply _ _ _ _ _ fun k => by fin_cases k <;> rfl

/-- On arguments that agree and meet the precondition, the kernel's result is the reference's. -/
theorem result_eq (hpre : Cert.Pre_KernelIdeal_lows_finite m) (c : Dev KernelIdeal.nD)
    (h1 : m' ((c.tc : Thread ReferenceIdeal.nD ReferenceIdeal.τ).loc ReferenceIdeal.main_arg1) = m ((c.tc : Thread KernelIdeal.nD KernelIdeal.τ).loc KernelIdeal.main_arg1))
    (h2 : m' ((c.tc : Thread ReferenceIdeal.nD ReferenceIdeal.τ).loc ReferenceIdeal.main_arg2) = m ((c.tc : Thread KernelIdeal.nD KernelIdeal.τ).loc KernelIdeal.main_arg2))
    (h3 : m' ((c.tc : Thread ReferenceIdeal.nD ReferenceIdeal.τ).loc ReferenceIdeal.main_arg3) = m ((c.tc : Thread KernelIdeal.nD KernelIdeal.τ).loc KernelIdeal.main_arg3))
    (h4 : m' ((c.tc : Thread ReferenceIdeal.nD ReferenceIdeal.τ).loc ReferenceIdeal.main_arg4) = m ((c.tc : Thread KernelIdeal.nD KernelIdeal.τ).loc KernelIdeal.main_arg4))
    (h5 : m' ((c.tc : Thread ReferenceIdeal.nD ReferenceIdeal.τ).loc ReferenceIdeal.main_arg5) = m ((c.tc : Thread KernelIdeal.nD KernelIdeal.τ).loc KernelIdeal.main_arg5))
    (h6 : m' ((c.tc : Thread ReferenceIdeal.nD ReferenceIdeal.τ).loc ReferenceIdeal.main_arg6) = m ((c.tc : Thread KernelIdeal.nD KernelIdeal.τ).loc KernelIdeal.main_arg6))
    (h7 : m' ((c.tc : Thread ReferenceIdeal.nD ReferenceIdeal.τ).loc ReferenceIdeal.main_arg7) = m ((c.tc : Thread KernelIdeal.nD KernelIdeal.τ).loc KernelIdeal.main_arg7)) :
    ReferenceIdeal.Value.res_main_v42 m' c = KernelIdeal.Hand.result (KernelIdeal.Hand.outG m) c := by
  obtain ⟨p1, p2, p5, p7⟩ := hpre c
  rw [ReferenceIdeal.Hand.res_eq, h1, h2, h3, h4, h5, h6, h7]
  funext x
  rw [eq_ix4 x]
  generalize x 0 = b
  generalize x 1 = t
  generalize x 2 = l
  generalize x 3 = e
  refine (ReferenceIdeal.Hand.refOf_apply _ _ _ _ _ _ _ b t l e).trans ?_
  refine Eq.trans ?_ (transposed (KernelIdeal.Hand.outG m c) _ b t l e).symm
  refine Eq.trans ?_ (KernelIdeal.Hand.outG_apply m c b t e l _ rfl).symm
  obtain ⟨ds, hds⟩ := real_of_test _ _ p1 (ix3 b t l)
  obtain ⟨dt, hdt⟩ := real_of_test _ _ p2 (ix2 b t)
  obtain ⟨sl, hsl⟩ := real_of_test _ _ p5 (ix2 (KernelIdeal.Hand.rowNo (m ((c : Thread KernelIdeal.nD KernelIdeal.τ).loc KernelIdeal.main_arg3) (ix1 b)) t) e)
  obtain ⟨tl, htl⟩ := real_of_test _ _ p7 (ix2 (KernelIdeal.Hand.rowNo (m ((c : Thread KernelIdeal.nD KernelIdeal.τ).loc KernelIdeal.main_arg3) (ix1 b)) t) e)
  have key := mix_eq sl tl ds dt
    (m ((c : Thread KernelIdeal.nD KernelIdeal.τ).loc KernelIdeal.main_arg4) (ix2 (KernelIdeal.Hand.rowNo (m ((c : Thread KernelIdeal.nD KernelIdeal.τ).loc KernelIdeal.main_arg3) (ix1 b)) t) e))
    (m ((c : Thread KernelIdeal.nD KernelIdeal.τ).loc KernelIdeal.main_arg6) (ix2 (KernelIdeal.Hand.rowNo (m ((c : Thread KernelIdeal.nD KernelIdeal.τ).loc KernelIdeal.main_arg3) (ix1 b)) t) e))
  rw [← hds, ← hdt, ← hsl, ← htl] at key
  exact key.symm

end Cert.Value

end
-- ==== Proof.lean ====
/-
  The proof of `Cert.Claim`.

  The kernel's runs, over any floats, are `run_main` of Proof/Launch.lean and its copy over the machine's words under
  Proof/Word; the array they leave is `outG` of Proof/Out.lean. The reference declares no semaphore and its run is the
  generated one. The two named reciprocals are the rule's own statement. Both results over the extended reals, read element
  by element in Proof/KernelValue.lean and Proof/RefValue.lean, are equal by `result_eq` of Proof/Value.lean.
-/
module

public import proofs.«01_k».proof.Defs
public import proofs.«01_k».proof.Proof.Out
public import proofs.«01_k».proof.Proof.Word.Out
public import proofs.«01_k».proof.Proof.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel as printed leaves its arguments and its counters as they were. -/
theorem frame_k : Cert.quiescent_Kernel := fun m g _ =>
  (θ_run Cert.Kernel.defs _ _).mono (fun _ h => ⟨fun c => (h.1 c).2, h.2⟩)
    (Cert.Kernel.Hand.run_main m g (Cert.Kernel.Hand.outG m) (Cert.Kernel.Hand.valsOf_outG m))

/-- The kernel with its two named constants does. -/
theorem frame_ki : Cert.quiescent_KernelIdeal := fun m g _ =>
  (θ_run Cert.KernelIdeal.defs _ _).mono (fun _ h => ⟨fun c => (h.1 c).2, h.2⟩)
    (Cert.KernelIdeal.Hand.run_main m g (Cert.KernelIdeal.Hand.outG m) (Cert.KernelIdeal.Hand.valsOf_outG m))

/-- The reference does: it declares no counter. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- So do both under the precondition. -/
theorem frame_ki_pre : Cert.quiescent_KernelIdeal_pre_lows_finite := fun m g _ => frame_ki m g trivial
theorem frame_r_pre : Cert.quiescent_ReferenceIdeal_pre_lows_finite := fun m g _ => frame_r m g trivial

/-- The two named constants are the reciprocals. -/
theorem preserves : Cert.preserves_Kernel_KernelIdeal :=
  ⟨IdealRules.named_const.statement _ _ _ _ _ rfl, IdealRules.named_const.statement _ _ _ _ _ rfl⟩

/-- From the same arguments the idealized kernel and the reference leave the same result. -/
theorem algebraic : Cert.algebraic_KernelIdeal_ReferenceIdeal_pre_lows_finite := fun m g m' g' hpre hargs =>
  ⟨Cert.KernelIdeal.Hand.result (Cert.KernelIdeal.Hand.outG m),
    (θ_run Cert.KernelIdeal.defs _ _).mono (fun _ h => h.1)
      (Cert.KernelIdeal.Hand.run_main m g (Cert.KernelIdeal.Hand.outG m) (Cert.KernelIdeal.Hand.valsOf_outG m)),
    (θ_run Cert.ReferenceIdeal.defs _ _).mono
      (fun _ h c => ⟨(h c).1.trans (have ⟨_, h1, h2, h3, h4, h5, h6, h7⟩ := hargs c
        Cert.Value.result_eq m m' hpre c h1 h2 h3 h4 h5 h6 h7), (h c).2⟩)
      (Cert.ReferenceIdeal.Value.run m' g')⟩

theorem claim : Cert.Claim := ⟨Cert.Kernel.Gen.facts, Cert.KernelIdeal.Gen.facts, Cert.ReferenceIdeal.Gen.facts,
  Cert.Value.preFacts, frame_k, frame_ki, frame_ki_pre, frame_r, frame_r_pre, preserves, algebraic⟩

end Cert.Proof

end
